-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x4096 : Shape := ⟨3, ![24, 1, 4096]⟩
abbrev S1024x22016 : Shape := ⟨2, ![1024, 22016]⟩
abbrev S256x22016 : Shape := ⟨2, ![256, 22016]⟩
abbrev S24x4096 : Shape := ⟨2, ![24, 4096]⟩
abbrev S24x22016 : Shape := ⟨2, ![24, 22016]⟩
abbrev S172x1024x128 : Shape := ⟨3, ![172, 1024, 128]⟩
abbrev S172x256x128 : Shape := ⟨3, ![172, 256, 128]⟩
abbrev S16x32x256 : Shape := ⟨3, ![16, 32, 256]⟩
abbrev S16x4x2x64x128 : Shape := ⟨5, ![16, 4, 2, 64, 128]⟩
abbrev S43 : Shape := ⟨1, ![43]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S256x256 : Shape := ⟨2, ![256, 256]⟩
abbrev S8x256 : Shape := ⟨2, ![8, 256]⟩
abbrev S24x256 : Shape := ⟨2, ![24, 256]⟩
abbrev S32x256 : Shape := ⟨2, ![32, 256]⟩
abbrev S1x32x256 : Shape := ⟨3, ![1, 32, 256]⟩
abbrev S64x128 : Shape := ⟨2, ![64, 128]⟩
abbrev S16x128 : Shape := ⟨2, ![16, 128]⟩
abbrev S8x2x128 : Shape := ⟨3, ![8, 2, 128]⟩
abbrev S8x1x128 : Shape := ⟨3, ![8, 1, 128]⟩
abbrev S8x128 : Shape := ⟨2, ![8, 128]⟩
abbrev S8x1x2x128 : Shape := ⟨4, ![8, 1, 2, 128]⟩
abbrev S8x4x2x128 : Shape := ⟨4, ![8, 4, 2, 128]⟩
abbrev S1x1x1x64x128 : Shape := ⟨5, ![1, 1, 1, 64, 128]⟩
abbrev S32x128 : Shape := ⟨2, ![32, 128]⟩
abbrev S32x1x128 : Shape := ⟨3, ![32, 1, 128]⟩
abbrev S32x2x128 : Shape := ⟨3, ![32, 2, 128]⟩
abbrev S24x1x22016 : Shape := ⟨3, ![24, 1, 22016]⟩

abbrev nBuf : Space → Nat
  | .hbm => 7
  | .vmem => 7
  | .smem => 0
  | _ => 0

abbrev bufTy : (tb : Table) → Fin (tcTables nBuf tb) → BufTy
  | .hbm, ⟨0, _⟩ => ⟨S24x1x4096, .bf16⟩
  | .hbm, ⟨1, _⟩ => ⟨S1024x22016, .i8⟩
  | .hbm, ⟨2, _⟩ => ⟨S256x22016, .bf16⟩
  | .hbm, ⟨3, _⟩ => ⟨S256x22016, .bf16⟩
  | .hbm, ⟨4, _⟩ => ⟨S24x4096, .bf16⟩
  | .hbm, ⟨5, _⟩ => ⟨S24x22016, .bf16⟩
  | .hbm, ⟨6, _⟩ => ⟨S24x1x22016, .bf16⟩
  | .local _ .vmem, ⟨0, _⟩ => ⟨S24x4096, .bf16⟩
  | .local _ .vmem, ⟨1, _⟩ => ⟨S24x22016, .bf16⟩
  | .local _ .vmem, ⟨2, _⟩ => ⟨S172x1024x128, .i8⟩
  | .local _ .vmem, ⟨3, _⟩ => ⟨S172x256x128, .bf16⟩
  | .local _ .vmem, ⟨4, _⟩ => ⟨S172x256x128, .bf16⟩
  | .local _ .vmem, ⟨5, _⟩ => ⟨S16x32x256, .bf16⟩
  | .local _ .vmem, ⟨6, _⟩ => ⟨S16x4x2x64x128, .bf16⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c43_i32 : BitVec 32 := 43#32
  let v0 : BitVec 32 := Scalar.addi c0_i32 c43_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32 : BitVec 32 := 4#32
  let v3 : BitVec 32 := Scalar.muli v2 c4_i32
  let c0_i32_3 : BitVec 32 := 0#32
  let v4 : BitVec 32 := Scalar.addi v3 c0_i32_3
  let c128_i32 : BitVec 32 := 128#32
  let v5 : BitVec 32 := Scalar.muli v4 c128_i32
  v5
def k0_off1 (k0_t1 : Fin k0_t1_loop.trips) : Fin 1 → Nat :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  ![v2.toNat]
def k0_off2 (k0_t1 : Fin k0_t1_loop.trips) (c0_i32_3 : BitVec 32) : Fin 3 → Nat :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32 : BitVec 32 := 4#32
  let v3 : BitVec 32 := Scalar.muli v2 c4_i32
  let v4 : BitVec 32 := Scalar.addi v3 c0_i32_3
  let c0_i32_4 : BitVec 32 := 0#32
  let c0_i32_5 : BitVec 32 := 0#32
  ![v4.toNat, 0, 0]
def k0_off3 (k0_t1 : Fin k0_t1_loop.trips) (c0_i32_3 : BitVec 32) : Fin 2 → Nat :=
  let c0_i32_6 : BitVec 32 := 0#32
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32 : BitVec 32 := 4#32
  let v3 : BitVec 32 := Scalar.muli v2 c4_i32
  let v4 : BitVec 32 := Scalar.addi v3 c0_i32_3
  let c128_i32 : BitVec 32 := 128#32
  let v5 : BitVec 32 := Scalar.muli v4 c128_i32
  let v6 : BitVec 32 := v5
  ![0, v6.toNat]
def k0_off4 (k0_t1 : Fin k0_t1_loop.trips) (c0_i32_3 : BitVec 32) : Fin 3 → Nat :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32 : BitVec 32 := 4#32
  let v3 : BitVec 32 := Scalar.muli v2 c4_i32
  let v4 : BitVec 32 := Scalar.addi v3 c0_i32_3
  let c0_i32_7 : BitVec 32 := 0#32
  let c0_i32_8 : BitVec 32 := 0#32
  ![v4.toNat, 0, 0]
def k0_off5 (k0_t1 : Fin k0_t1_loop.trips) (c0_i32_3 : BitVec 32) : Fin 2 → Nat :=
  let c0_i32_9 : BitVec 32 := 0#32
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32 : BitVec 32 := 4#32
  let v3 : BitVec 32 := Scalar.muli v2 c4_i32
  let v4 : BitVec 32 := Scalar.addi v3 c0_i32_3
  let c128_i32 : BitVec 32 := 128#32
  let v5 : BitVec 32 := Scalar.muli v4 c128_i32
  let v6 : BitVec 32 := v5
  ![0, v6.toNat]
def k0_mult2 (k0_t1 : Fin k0_t1_loop.trips) : BitVec 32 :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32_13 : BitVec 32 := 4#32
  let v22 : BitVec 32 := Scalar.muli v2 c4_i32_13
  let c1_i32_14 : BitVec 32 := 1#32
  let v23 : BitVec 32 := Scalar.addi v22 c1_i32_14
  let c128_i32_15 : BitVec 32 := 128#32
  let v24 : BitVec 32 := Scalar.muli v23 c128_i32_15
  v24
def k0_mult3 (k0_t1 : Fin k0_t1_loop.trips) : BitVec 32 :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32_25 : BitVec 32 := 4#32
  let v41 : BitVec 32 := Scalar.muli v2 c4_i32_25
  let c2_i32 : BitVec 32 := 2#32
  let v42 : BitVec 32 := Scalar.addi v41 c2_i32
  let c128_i32_26 : BitVec 32 := 128#32
  let v43 : BitVec 32 := Scalar.muli v42 c128_i32_26
  v43
def k0_mult4 (k0_t1 : Fin k0_t1_loop.trips) : BitVec 32 :=
  let c0_i32_2 : BitVec 32 := 0#32
  let c0_i32 : BitVec 32 := 0#32
  let c1_i32 : BitVec 32 := 1#32
  let arg11 : BitVec 32 := Scf.iv c0_i32 c1_i32 k0_t1
  let c1_i32_1 : BitVec 32 := 1#32
  let v1 : BitVec 32 := Scalar.muli arg11 c1_i32_1
  let v2 : BitVec 32 := Scalar.addi c0_i32_2 v1
  let c4_i32_36 : BitVec 32 := 4#32
  let v60 : BitVec 32 := Scalar.muli v2 c4_i32_36
  let c3_i32 : BitVec 32 := 3#32
  let v61 : BitVec 32 := Scalar.addi v60 c3_i32
  let c128_i32_37 : BitVec 32 := 128#32
  let v62 : BitVec 32 := Scalar.muli v61 c128_i32_37
  v62
@[reducible] def k0_t2_loop : Scf.Loop 32 :=
  let c0_i32_55_r0 : BitVec 32 := 0#32
  let c43_i32_56_r0 : BitVec 32 := 43#32
  let v154_r0 : BitVec 32 := Scalar.addi c0_i32_55_r0 c43_i32_56_r0
  let c1_i32_57_r0 : BitVec 32 := 1#32
  ⟨c0_i32_55_r0, v154_r0, c1_i32_57_r0⟩
def k0_mult5 (k0_t2 : Fin k0_t2_loop.trips) : BitVec 32 :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let c0_i32_66_r0 : BitVec 32 := 0#32
  let v159_r0 : BitVec 32 := Scalar.addi v158_r0 c0_i32_66_r0
  let c128_i32_r0 : BitVec 32 := 128#32
  let v160_r0 : BitVec 32 := Scalar.muli v159_r0 c128_i32_r0
  v160_r0
def k0_off6 (k0_t2 : Fin k0_t2_loop.trips) : Fin 1 → Nat :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  ![v157_r0.toNat]
def k0_off7 (k0_t2 : Fin k0_t2_loop.trips) (c0_i32_66_r0 : BitVec 32) : Fin 3 → Nat :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c0_i32_67_r0 : BitVec 32 := 0#32
  let c0_i32_68_r0 : BitVec 32 := 0#32
  ![v159_r0.toNat, 0, 0]
def k0_off8 (k0_t2 : Fin k0_t2_loop.trips) (c0_i32_66_r0 : BitVec 32) : Fin 2 → Nat :=
  let c0_i32_69_r0 : BitVec 32 := 0#32
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c128_i32_r0 : BitVec 32 := 128#32
  let v160_r0 : BitVec 32 := Scalar.muli v159_r0 c128_i32_r0
  let v161_r0 : BitVec 32 := v160_r0
  ![0, v161_r0.toNat]
def k0_off9 (k0_t2 : Fin k0_t2_loop.trips) (c0_i32_66_r0 : BitVec 32) : Fin 3 → Nat :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c0_i32_70_r0 : BitVec 32 := 0#32
  let c0_i32_71_r0 : BitVec 32 := 0#32
  ![v159_r0.toNat, 0, 0]
def k0_off10 (k0_t2 : Fin k0_t2_loop.trips) (c0_i32_66_r0 : BitVec 32) : Fin 2 → Nat :=
  let c0_i32_72_r0 : BitVec 32 := 0#32
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c128_i32_r0 : BitVec 32 := 128#32
  let v160_r0 : BitVec 32 := Scalar.muli v159_r0 c128_i32_r0
  let v161_r0 : BitVec 32 := v160_r0
  ![0, v161_r0.toNat]
def k0_mult6 (k0_t2 : Fin k0_t2_loop.trips) : BitVec 32 :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_76_r0 : BitVec 32 := 4#32
  let v177_r0 : BitVec 32 := Scalar.muli v157_r0 c4_i32_76_r0
  let c1_i32_77_r0 : BitVec 32 := 1#32
  let v178_r0 : BitVec 32 := Scalar.addi v177_r0 c1_i32_77_r0
  let c128_i32_78_r0 : BitVec 32 := 128#32
  let v179_r0 : BitVec 32 := Scalar.muli v178_r0 c128_i32_78_r0
  v179_r0
def k0_mult7 (k0_t2 : Fin k0_t2_loop.trips) : BitVec 32 :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_88_r0 : BitVec 32 := 4#32
  let v196_r0 : BitVec 32 := Scalar.muli v157_r0 c4_i32_88_r0
  let c2_i32_89_r0 : BitVec 32 := 2#32
  let v197_r0 : BitVec 32 := Scalar.addi v196_r0 c2_i32_89_r0
  let c128_i32_90_r0 : BitVec 32 := 128#32
  let v198_r0 : BitVec 32 := Scalar.muli v197_r0 c128_i32_90_r0
  v198_r0
def k0_mult8 (k0_t2 : Fin k0_t2_loop.trips) : BitVec 32 :=
  let c0_i32_64_r0 : BitVec 32 := 0#32
  let c0_i32_55_r0 : BitVec 32 := 0#32
  let c1_i32_57_r0 : BitVec 32 := 1#32
  let arg11_r0 : BitVec 32 := Scf.iv c0_i32_55_r0 c1_i32_57_r0 k0_t2
  let c1_i32_63_r0 : BitVec 32 := 1#32
  let v156_r0 : BitVec 32 := Scalar.muli arg11_r0 c1_i32_63_r0
  let v157_r0 : BitVec 32 := Scalar.addi c0_i32_64_r0 v156_r0
  let c4_i32_100_r0 : BitVec 32 := 4#32
  let v215_r0 : BitVec 32 := Scalar.muli v157_r0 c4_i32_100_r0
  let c3_i32_r0 : BitVec 32 := 3#32
  let v216_r0 : BitVec 32 := Scalar.addi v215_r0 c3_i32_r0
  let c128_i32_101_r0 : BitVec 32 := 128#32
  let v217_r0 : BitVec 32 := Scalar.muli v216_r0 c128_i32_101_r0
  v217_r0
@[reducible] def k0_t3_loop : Scf.Loop 32 :=
  let c0_i32_59_r0 : BitVec 32 := 0#32
  let c43_i32_60_r0 : BitVec 32 := 43#32
  let v155_r0 : BitVec 32 := Scalar.addi c0_i32_59_r0 c43_i32_60_r0
  let c1_i32_61_r0 : BitVec 32 := 1#32
  ⟨c0_i32_59_r0, v155_r0, c1_i32_61_r0⟩
def k0_off11 (k0_t3 : Fin k0_t3_loop.trips) (c0_i32_66_r0 : BitVec 32) : Fin 3 → Nat :=
  let c0_i32_64_r0 : BitVec 32 := 0#32
  let c0_i32_59_r0 : BitVec 32 := 0#32
  let c1_i32_61_r0 : BitVec 32 := 1#32
  let arg11_r0 : BitVec 32 := Scf.iv c0_i32_59_r0 c1_i32_61_r0 k0_t3
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c0_i32_67_r0 : BitVec 32 := 0#32
  let c0_i32_68_r0 : BitVec 32 := 0#32
  ![v159_r0.toNat, 0, 0]
def k0_off12 (k0_t3 : Fin k0_t3_loop.trips) (c0_i32_66_r0 : BitVec 32) : Fin 3 → Nat :=
  let c0_i32_64_r0 : BitVec 32 := 0#32
  let c0_i32_59_r0 : BitVec 32 := 0#32
  let c1_i32_61_r0 : BitVec 32 := 1#32
  let arg11_r0 : BitVec 32 := Scf.iv c0_i32_59_r0 c1_i32_61_r0 k0_t3
  let c1_i32_63_r0 : BitVec 32 := 1#32
  let v156_r0 : BitVec 32 := Scalar.muli arg11_r0 c1_i32_63_r0
  let v157_r0 : BitVec 32 := Scalar.addi c0_i32_64_r0 v156_r0
  let c4_i32_65_r0 : BitVec 32 := 4#32
  let v158_r0 : BitVec 32 := Scalar.muli v157_r0 c4_i32_65_r0
  let v159_r0 : BitVec 32 := Scalar.addi v158_r0 c0_i32_66_r0
  let c0_i32_71_r0 : BitVec 32 := 0#32
  let c0_i32_72_r0 : BitVec 32 := 0#32
  ![v159_r0.toNat, 0, 0]
def k0_mult9 (k0_t3 : Fin k0_t3_loop.trips) : BitVec 32 :=
  let c0_i32_64_r0 : BitVec 32 := 0#32
  let c0_i32_59_r0 : BitVec 32 := 0#32
  let c1_i32_61_r0 : BitVec 32 := 1#32
  let arg11_r0 : BitVec 32 := Scf.iv c0_i32_59_r0 c1_i32_61_r0 k0_t3
  let c1_i32_63_r0 : BitVec 32 := 1#32
  let v156_r0 : BitVec 32 := Scalar.muli arg11_r0 c1_i32_63_r0
  let v157_r0 : BitVec 32 := Scalar.addi c0_i32_64_r0 v156_r0
  let c512_i32_r0 : BitVec 32 := 512#32
  let v8065_r0 : BitVec 32 := Scalar.muli v157_r0 c512_i32_r0
  let c0_i32_3845_r0 : BitVec 32 := 0#32
  let v8066_r0 : BitVec 32 := Scalar.addi v8065_r0 c0_i32_3845_r0
  v8066_r0
def k0_off13 (k0_t3 : Fin k0_t3_loop.trips) (c0_i32_3845_r0 : BitVec 32) : Fin 2 → Nat :=
  let c0_3846_r0 : Index := 0#32
  let c0_i32_64_r0 : BitVec 32 := 0#32
  let c0_i32_59_r0 : BitVec 32 := 0#32
  let c1_i32_61_r0 : BitVec 32 := 1#32
  let arg11_r0 : BitVec 32 := Scf.iv c0_i32_59_r0 c1_i32_61_r0 k0_t3
  let c1_i32_63_r0 : BitVec 32 := 1#32
  let v156_r0 : BitVec 32 := Scalar.muli arg11_r0 c1_i32_63_r0
  let v157_r0 : BitVec 32 := Scalar.addi c0_i32_64_r0 v156_r0
  let c512_i32_r0 : BitVec 32 := 512#32
  let v8065_r0 : BitVec 32 := Scalar.muli v157_r0 c512_i32_r0
  let v8066_r0 : BitVec 32 := Scalar.addi v8065_r0 c0_i32_3845_r0
  let v8067_r0 : BitVec 32 := v8066_r0
  let v8068_r0 : Index := Scalar.indexCast v8067_r0
  ![0, v8068_r0.toNat]
def k0_mult10 (k0_t3 : Fin k0_t3_loop.trips) : BitVec 32 :=
  let c0_i32_64_r0 : BitVec 32 := 0#32
  let c0_i32_59_r0 : BitVec 32 := 0#32
  let c1_i32_61_r0 : BitVec 32 := 1#32
  let arg11_r0 : BitVec 32 := Scf.iv c0_i32_59_r0 c1_i32_61_r0 k0_t3
  let c1_i32_63_r0 : BitVec 32 := 1#32
  let v156_r0 : BitVec 32 := Scalar.muli arg11_r0 c1_i32_63_r0
  let v157_r0 : BitVec 32 := Scalar.addi c0_i32_64_r0 v156_r0
  let c512_i32_3847_r0 : BitVec 32 := 512#32
  let v8073_r0 : BitVec 32 := Scalar.muli v157_r0 c512_i32_3847_r0
  let c256_i32_r0 : BitVec 32 := 256#32
  let v8074_r0 : BitVec 32 := Scalar.addi v8073_r0 c256_i32_r0
  v8074_r0
abbrev stage0_0 : Fin 1 → Memref sig .tc .vmem S24x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x22016 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S24x1x4096 : Shape := ⟨3, ![24, 1, 4096]⟩
abbrev S1024x22016 : Shape := ⟨2, ![1024, 22016]⟩
abbrev S256x22016 : Shape := ⟨2, ![256, 22016]⟩
abbrev S256x4x22016 : Shape := ⟨3, ![256, 4, 22016]⟩
abbrev S_ : Shape := ⟨0, ![]⟩
abbrev S24x1x1024 : Shape := ⟨3, ![24, 1, 1024]⟩
abbrev S24x1x22016 : Shape := ⟨3, ![24, 1, 22016]⟩

abbrev nBuf : Space → Nat
  | .hbm => 57
  | .vmem => 0
  | .smem => 0
  | _ => 0

abbrev bufTy : (tb : Table) → Fin (tcTables nBuf tb) → BufTy
  | .hbm, ⟨0, _⟩ => ⟨S24x1x4096, .bf16⟩
  | .hbm, ⟨1, _⟩ => ⟨S1024x22016, .i8⟩
  | .hbm, ⟨2, _⟩ => ⟨S256x22016, .bf16⟩
  | .hbm, ⟨3, _⟩ => ⟨S256x22016, .bf16⟩
  | .hbm, ⟨4, _⟩ => ⟨S256x4x22016, .bf16⟩
  | .hbm, ⟨5, _⟩ => ⟨S1024x22016, .bf16⟩
  | .hbm, ⟨6, _⟩ => ⟨S256x4x22016, .bf16⟩
  | .hbm, ⟨7, _⟩ => ⟨S1024x22016, .bf16⟩
  | .hbm, ⟨8, _⟩ => ⟨S1024x22016, .i32⟩
  | .hbm, ⟨9, _⟩ => ⟨S_, .i32⟩
  | .hbm, ⟨10, _⟩ => ⟨S1024x22016, .i32⟩
  | .hbm, ⟨11, _⟩ => ⟨S1024x22016, .i32⟩
  | .hbm, ⟨12, _⟩ => ⟨S_, .i32⟩
  | .hbm, ⟨13, _⟩ => ⟨S1024x22016, .i32⟩
  | .hbm, ⟨14, _⟩ => ⟨S1024x22016, .i32⟩
  | .hbm, ⟨15, _⟩ => ⟨S1024x22016, .bf16⟩
  | .hbm, ⟨16, _⟩ => ⟨S1024x22016, .bf16⟩
  | .hbm, ⟨17, _⟩ => ⟨S1024x22016, .bf16⟩
  | .hbm, ⟨18, _⟩ => ⟨S24x1x1024, .bf16⟩
  | .hbm, ⟨19, _⟩ => ⟨S24x1x22016, .f32⟩
  | .hbm, ⟨20, _⟩ => ⟨S_, .i32⟩
  | .hbm, ⟨21, _⟩ => ⟨S1024x22016, .i32⟩
  | .hbm, ⟨22, _⟩ => ⟨S1024x22016, .i32⟩
  | .hbm, ⟨23, _⟩ => ⟨S_, .i32⟩
  | .hbm, ⟨24, _⟩ => ⟨S1024x22016, .i32⟩
  | .hbm, ⟨25, _⟩ => ⟨S1024x22016, .i32⟩
  | .hbm, ⟨26, _⟩ => ⟨S1024x22016, .bf16⟩
  | .hbm, ⟨27, _⟩ => ⟨S1024x22016, .bf16⟩
  | .hbm, ⟨28, _⟩ => ⟨S1024x22016, .bf16⟩
  | .hbm, ⟨29, _⟩ => ⟨S24x1x1024, .bf16⟩
  | .hbm, ⟨30, _⟩ => ⟨S24x1x22016, .f32⟩
  | .hbm, ⟨31, _⟩ => ⟨S24x1x22016, .f32⟩
  | .hbm, ⟨32, _⟩ => ⟨S_, .i32⟩
  | .hbm, ⟨33, _⟩ => ⟨S1024x22016, .i32⟩
  | .hbm, ⟨34, _⟩ => ⟨S1024x22016, .i32⟩
  | .hbm, ⟨35, _⟩ => ⟨S_, .i32⟩
  | .hbm, ⟨36, _⟩ => ⟨S1024x22016, .i32⟩
  | .hbm, ⟨37, _⟩ => ⟨S1024x22016, .i32⟩
  | .hbm, ⟨38, _⟩ => ⟨S1024x22016, .bf16⟩
  | .hbm, ⟨39, _⟩ => ⟨S1024x22016, .bf16⟩
  | .hbm, ⟨40, _⟩ => ⟨S1024x22016, .bf16⟩
  | .hbm, ⟨41, _⟩ => ⟨S24x1x1024, .bf16⟩
  | .hbm, ⟨42, _⟩ => ⟨S24x1x22016, .f32⟩
  | .hbm, ⟨43, _⟩ => ⟨S24x1x22016, .f32⟩
  | .hbm, ⟨44, _⟩ => ⟨S_, .i32⟩
  | .hbm, ⟨45, _⟩ => ⟨S1024x22016, .i32⟩
  | .hbm, ⟨46, _⟩ => ⟨S1024x22016, .i32⟩
  | .hbm, ⟨47, _⟩ => ⟨S_, .i32⟩
  | .hbm, ⟨48, _⟩ => ⟨S1024x22016, .i32⟩
  | .hbm, ⟨49, _⟩ => ⟨S1024x22016, .i32⟩
  | .hbm, ⟨50, _⟩ => ⟨S1024x22016, .bf16⟩
  | .hbm, ⟨51, _⟩ => ⟨S1024x22016, .bf16⟩
  | .hbm, ⟨52, _⟩ => ⟨S1024x22016, .bf16⟩
  | .hbm, ⟨53, _⟩ => ⟨S24x1x1024, .bf16⟩
  | .hbm, ⟨54, _⟩ => ⟨S24x1x22016, .f32⟩
  | .hbm, ⟨55, _⟩ => ⟨S24x1x22016, .f32⟩
  | .hbm, ⟨56, _⟩ => ⟨S24x1x22016, .bf16⟩
  | _, _ => ⟨S24x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.K.Struct.lean ====
/-
  Hand-written, untrusted. The kernel's body restated as a program with recursion over the sixteen
  K-tiles and the four planes of a chunk instead of the printed straight line, and the equation
  between the two, checked by the kernel of Lean alone (both sides reduce to the same chain of effects).
-/
module

public import proofs.«01_k».proof.Proof.Gen.KernelIdeal
public import Idealize.ShloMosaic.Lib.Pipeline.Regions

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## Values -/

/-- The 32-bit words of row pairs `half` (0: even rows of words, 1: odd) of sixty-four rows of packed bytes. -/
def wordRows (w : Vec F S64x128 .i8) : IVec S8x2x128 32 :=
  shapeCast S8x2x128 (bitcast S16x128 32 w bitcasts_S64x128_w8_S16x128_w32) shapeCasts_S16x128_S8x2x128
def evenWords (w : Vec F S64x128 .i8) : IVec S8x128 32 :=
  shapeCast S8x128 (extractStridedSlice S8x1x128 ![0, 0, 0] (wordRows (F := F) w) slices_S8x2x128_o0_0_0_S8x1x128) shapeCasts_S8x1x128_S8x128
def oddWords (w : Vec F S64x128 .i8) : IVec S8x128 32 :=
  shapeCast S8x128 (extractStridedSlice S8x1x128 ![0, 1, 0] (wordRows (F := F) w) slices_S8x2x128_o0_1_0_S8x1x128) shapeCasts_S8x1x128_S8x128

/-- The bytes of a row of words. -/
def toBytes (v : IVec S8x128 32) : IVec S32x128 8 := bitcast S32x128 8 v bitcasts_S8x128_w32_S32x128_w8
def shiftWords (v : IVec S8x128 32) (n : BitVec 32) : IVec S8x128 32 := shrui v (broadcast S8x128 n)

/-- The low nibbles of two byte vectors packed in one byte vector, read back as words. -/
def nibbles (e o : IVec S8x128 32) : IVec S8x128 32 :=
  bitcast S8x128 32 (ori (andi (toBytes e) (broadcast S32x128 15#8)) (shli (toBytes o) (broadcast S32x128 4#8))) bitcasts_S32x128_w8_S8x128_w32

/-- The two-bit codes of a word's bytes, the low nibble's beside the high nibble's, as numbers. -/
def codes (f : IVec S8x128 32) : FVec F S64x128 .bf16 :=
  let b := toBytes (andi f (broadcast S8x128 858993459#32))
  sitofp .bf16 (shapeCast S64x128 (concatenate S32x2x128 1
    [⟨S32x1x128, shapeCast S32x1x128 (andi b (broadcast S32x128 15#8)) shapeCasts_S32x128_S32x1x128⟩,
     ⟨S32x1x128, shapeCast S32x1x128 (andi (shrsi b (broadcast S32x128 4#8)) (broadcast S32x128 15#8)) shapeCasts_S32x128_S32x1x128⟩]
    concatenates_S32x1x128_S32x1x128_S32x2x128_d1) shapeCasts_S32x2x128_S64x128)

def affine (f : IVec S8x128 32) (sc mn : FVec F S64x128 .bf16) : FVec F S64x128 .bf16 := addf (mulf (codes f) sc) mn

/-- The 256 weights of a plane's K-tile. -/
def dequant (w : Vec F S64x128 .i8) (sc mn : FVec F S64x128 .bf16) : FVec F S256x128 .bf16 :=
  let e := evenWords (F := F) w
  let o := oddWords (F := F) w
  let lo := nibbles e o
  let hi := nibbles (shiftWords e 4#32) (shiftWords o 4#32)
  concatenate S256x128 0 [⟨S64x128, affine lo sc mn⟩, ⟨S64x128, affine (shiftWords lo 2#32) sc mn⟩,
    ⟨S64x128, affine hi sc mn⟩, ⟨S64x128, affine (shiftWords hi 2#32) sc mn⟩] concatenates_S64x128_S64x128_S64x128_S64x128_S256x128_d0

/-- Sixteen group rows, each pair of rows repeated four times. -/
def repeatRows (v : Vec F S16x128 .bf16) : FVec F S64x128 .bf16 :=
  let p : FVec F S8x1x2x128 .bf16 := shapeCast S8x1x2x128 v shapeCasts_S16x128_S8x1x2x128
  shapeCast S64x128 (concatenate S8x4x2x128 1 [⟨S8x1x2x128, p⟩, ⟨S8x1x2x128, p⟩, ⟨S8x1x2x128, p⟩, ⟨S8x1x2x128, p⟩]
    concatenates_S8x1x2x128_S8x1x2x128_S8x1x2x128_S8x1x2x128_S8x4x2x128_d1) shapeCasts_S8x4x2x128_S64x128

/-! ## Bounds at a symbolic tile, plane and slot -/

theorem inbW (t : Fin 16) : ∀ a, (![64 * t.val, 0] : Fin 2 → Nat) a + S64x128.size a ≤ S1024x128.size a := by revert t; decide
theorem inbS (t : Fin 16) : ∀ a, (![16 * t.val, 0] : Fin 2 → Nat) a + S16x128.size a ≤ S256x128.size a := by revert t; decide
theorem inbX (t : Fin 16) : ∀ a, (![0, 256 * t.val] : Fin 2 → Nat) a + S24x256.size a ≤ S24x4096.size a := by revert t; decide
theorem inbXp (t : Fin 16) : ∀ a, (![t.val, 0, 0] : Fin 3 → Nat) a + S1x32x256.size a ≤ S16x32x256.size a := by revert t; decide
theorem inbRep (t : Fin 16) (p : Fin 4) (q : Fin 2) :
    ∀ a, (![t.val, p.val, q.val, 0, 0] : Fin 5 → Nat) a + S1x1x1x64x128.size a ≤ S16x4x2x64x128.size a := by
  revert t p q; decide
theorem packedXp (t : Fin 16) : (Rect.unit (s := S16x32x256) ![t.val, 0, 0] S1x32x256.size (inbXp t)).PackedRows (EltTy.packing .bf16) := by
  revert t; decide
theorem packedRep (t : Fin 16) (p : Fin 4) (q : Fin 2) :
    (Rect.unit (s := S16x4x2x64x128) ![t.val, p.val, q.val, 0, 0] S1x1x1x64x128.size (inbRep t p q)).PackedRows (EltTy.packing .bf16) := by
  revert t p q; decide
theorem fitsP (t : Fin 16) : Mxu.Fits (8 * t.val) 32 := by revert t; decide

/-! ## The structured program -/

abbrev K (F : FTy → Type) := Prog (TpuEff nD τ sig (Elt F) Λ₀ .tc)

/-- The group rows repeated, through their slot of the repeat buffer. -/
def repProg (arg : Memref sig .tc .vmem S172x256x128 .bf16) (arg9 : Memref sig .tc .vmem S16x4x2x64x128 .bf16) (harg9 : arg9.IsWhole)
    (c : Fin k0_t3_loop.trips) (t : Fin 16) (p : Fin 4) (q : Fin 2) : K F (FVec F S64x128 .bf16) := do
  let v : Vec F S16x128 .bf16 ← Prog.lift (.load ((arg.slice (Rect.unit (s := S172x256x128) (k0_off12 c (BitVec.ofNat 32 p.val)) S1x256x128.size (k0_off12_inb c p)) (fun _ => rfl)).squeeze S256x128 squeezes_S1x256x128_S256x128)
    (Rect.unit (s := S256x128) ![16 * t.val, 0] S16x128.size (inbS t)).toLoadRect (View.loadsAt_vmem h_S16x128))
  let _ : Vec F S1x1x1x64x128 .bf16 ← Prog.lift (.load arg9 (Rect.unit (s := S16x4x2x64x128) ![t.val, p.val, q.val, 0, 0] S1x1x1x64x128.size (inbRep t p q)).toLoadRect (View.loadsAt_vmem h_S1x1x1x64x128))
  Prog.lift (.store arg9 (Rect.unit (s := S16x4x2x64x128) ![t.val, p.val, q.val, 0, 0] S1x1x1x64x128.size (inbRep t p q))
    (shapeCast S1x1x1x64x128 (repeatRows (F := F) v) shapeCasts_S64x128_S1x1x1x64x128) Finset.univ
    (View.stores_vmem h_S1x1x1x64x128 (harg9.storeExact_slice rfl _ (packedRep t p q)) (fun _ => rfl)) (.inl rfl))
  let r : Vec F S1x1x1x64x128 .bf16 ← Prog.lift (.load arg9 (Rect.unit (s := S16x4x2x64x128) ![t.val, p.val, q.val, 0, 0] S1x1x1x64x128.size (inbRep t p q)).toLoadRect (View.loadsAt_vmem h_S1x1x1x64x128))
  pure (shapeCast S64x128 r shapeCasts_S1x1x1x64x128_S64x128)

/-- A plane's K-tile of weights. -/
def deqProg (arg5 : Memref sig .tc .vmem S172x1024x128 .i8) (arg6 arg7 : Memref sig .tc .vmem S172x256x128 .bf16)
    (arg9 : Memref sig .tc .vmem S16x4x2x64x128 .bf16) (harg9 : arg9.IsWhole)
    (c : Fin k0_t3_loop.trips) (t : Fin 16) (p : Fin 4) : K F (FVec F S256x128 .bf16) := do
  let w : Vec F S64x128 .i8 ← Prog.lift (.load ((arg5.slice (Rect.unit (s := S172x1024x128) (k0_off11 c (BitVec.ofNat 32 p.val)) S1x1024x128.size (k0_off11_inb c p)) (fun _ => rfl)).squeeze S1024x128 squeezes_S1x1024x128_S1024x128)
    (Rect.unit (s := S1024x128) ![64 * t.val, 0] S64x128.size (inbW t)).toLoadRect (View.loadsAt_vmem h_S64x128))
  let sc ← repProg (F := F) arg6 arg9 harg9 c t p 0
  let mn ← repProg (F := F) arg7 arg9 harg9 c t p 1
  pure (dequant w sc mn)

def wide (a b : FVec F S256x128 .bf16) : FVec F S256x256 .bf16 :=
  concatenate S256x256 1 [⟨S256x128, a⟩, ⟨S256x128, b⟩] concatenates_S256x128_S256x128_S256x256_d1

/-- The staging register of tile `t`. -/
def regOf (t : Fin 16) : Fin 2 := ⟨t.val % 2, Nat.mod_lt _ (by decide)⟩

/-- The left-hand tile, loaded back from its slot. -/
def xpLoad (arg8 : Memref sig .tc .vmem S16x32x256 .bf16) (t : Fin 16) : K F (FVec F S32x256 .bf16) := do
  let v : Vec F S1x32x256 .bf16 ← Prog.lift (.load arg8 (Rect.unit (s := S16x32x256) ![t.val, 0, 0] S1x32x256.size (inbXp t)).toLoadRect (View.loadsAt_vmem h_S1x32x256))
  pure (shapeCast S32x256 v shapeCasts_S1x32x256_S32x256)

/-- One K-tile of a chunk: the four planes' weights, each unit's push and accumulate. -/
def tileProg (arg5 : Memref sig .tc .vmem S172x1024x128 .i8) (arg6 arg7 : Memref sig .tc .vmem S172x256x128 .bf16)
    (arg8 : Memref sig .tc .vmem S16x32x256 .bf16)
    (arg9 : Memref sig .tc .vmem S16x4x2x64x128 .bf16) (harg9 : arg9.IsWhole)
    (c : Fin k0_t3_loop.trips) (t : Fin 16) (s : Mxu F) : K F (Mxu F) := do
  let w0 ← deqProg (F := F) arg5 arg6 arg7 arg9 harg9 c t 0
  let w1 ← deqProg (F := F) arg5 arg6 arg7 arg9 harg9 c t 1
  let w2 ← deqProg (F := F) arg5 arg6 arg7 arg9 harg9 c t 2
  let w3 ← deqProg (F := F) arg5 arg6 arg7 arg9 harg9 c t 3
  let s1 : Mxu F ← s.pushRhs 0 (regOf t) false (wide w0 w1)
  let x0 ← xpLoad (F := F) arg8 t
  let s2 : Mxu F := s1.accLhs 0 (regOf t) 128 x0 fits_128_32
  let s3 : Mxu F ← s2.pushRhs 1 (regOf t) false (wide w2 w3)
  let x1 ← xpLoad (F := F) arg8 t
  pure (s3.accLhs 1 (regOf t) 0 x1 fits_0_32)

/-- The K-tiles from tile `t` on, `n` of them. -/
def tilesProg (arg5 : Memref sig .tc .vmem S172x1024x128 .i8) (arg6 arg7 : Memref sig .tc .vmem S172x256x128 .bf16)
    (arg8 : Memref sig .tc .vmem S16x32x256 .bf16)
    (arg9 : Memref sig .tc .vmem S16x4x2x64x128 .bf16) (harg9 : arg9.IsWhole)
    (c : Fin k0_t3_loop.trips) : (n : ℕ) → (t : ℕ) → n + t = 16 → Mxu F → K F (Mxu F)
  | 0, _, _, s => pure s
  | n + 1, t, h, s => do
    let s' ← tileProg (F := F) arg5 arg6 arg7 arg8 arg9 harg9 c ⟨t, by omega⟩ s
    tilesProg arg5 arg6 arg7 arg8 arg9 harg9 c n (t + 1) (by omega) s'

/-- The store of a unit's result into its 256 columns of the output. -/
def outProg (arg4 : Memref sig .tc .vmem S24x22016 .bf16) (harg4 : arg4.IsWhole) (c : Fin k0_t3_loop.trips) (q : Fin 2)
    (v : FVec F S32x256 .f32) : K F PUnit := do
  let _ : Vec F S24x256 .bf16 ← Prog.lift (.load arg4 (Rect.unit (s := S24x22016) (k0_off13 c (BitVec.ofNat 32 (256 * q.val))) S24x256.size (k0_off13_inb c q)).toLoadRect (View.loadsAt_vmem h_S24x256))
  Prog.lift (.store arg4 (Rect.unit (s := S24x22016) (k0_off13 c (BitVec.ofNat 32 (256 * q.val))) S24x256.size (k0_off13_inb c q))
    (truncf .bf16 (extractStridedSlice S24x256 ![0, 0] v slices_S32x256_o0_0_S24x256) bitsLt_bf16_f32) Finset.univ
    (View.stores_vmem h_S24x256 (harg4.storeExact_slice rfl _ (k0_off13_packedbf16 c q)) (fun _ => rfl)) (.inl rfl))

/-- One chunk: its K-tiles, then both units' results popped and stored. -/
def chunkProg (arg4 : Memref sig .tc .vmem S24x22016 .bf16) (harg4 : arg4.IsWhole)
    (arg5 : Memref sig .tc .vmem S172x1024x128 .i8) (arg6 arg7 : Memref sig .tc .vmem S172x256x128 .bf16)
    (arg8 : Memref sig .tc .vmem S16x32x256 .bf16)
    (arg9 : Memref sig .tc .vmem S16x4x2x64x128 .bf16) (harg9 : arg9.IsWhole)
    (c : Fin k0_t3_loop.trips) (s : Mxu F) : K F (Mxu F) := do
  let s' ← tilesProg (F := F) arg5 arg6 arg7 arg8 arg9 harg9 c 16 0 rfl s
  outProg (F := F) arg4 harg4 c 0 (s'.read 0 128 fits_128_32)
  let s'' : Mxu F := s'.pop 0 128 32 fits_128_32
  outProg (F := F) arg4 harg4 c 1 (s''.read 1 0 fits_0_32)
  pure (s''.pop 1 0 32 fits_0_32)

/-! ### The prologue: the copies' starts, the permuted left-hand tiles, the waits -/

section Copies
variable (arg1 : Memref sig .tc .hbm S1024x22016 .i8) (arg2 arg3 : Memref sig .tc .hbm S256x22016 .bf16)
  (arg5 : Memref sig .tc .vmem S172x1024x128 .i8) (arg6 arg7 : Memref sig .tc .vmem S172x256x128 .bf16) (arg10 : DmaSems sig S43)

abbrev cell1 (c : Fin k0_t1_loop.trips) : DmaSems sig S_ :=
  (arg10.slice (Rect.unit (s := S43) (k0_off1 c) S1.size (k0_off1_inb c))).squeeze S_ squeezes_S1_S_
abbrev srcW (c : Fin k0_t1_loop.trips) (p : Fin 4) : Memref sig .tc .hbm S1024x128 .i8 :=
  arg1.slice (Rect.unit (s := S1024x22016) (k0_off3 c (BitVec.ofNat 32 p.val)) S1024x128.size (k0_off3_inb c p)) (fun _ => rfl)
abbrev srcS (c : Fin k0_t1_loop.trips) (p : Fin 4) : Memref sig .tc .hbm S256x128 .bf16 :=
  arg2.slice (Rect.unit (s := S256x22016) (k0_off5 c (BitVec.ofNat 32 p.val)) S256x128.size (k0_off5_inb c p)) (fun _ => rfl)
abbrev dstW (c : Fin k0_t1_loop.trips) (p : Fin 4) : Memref sig .tc .vmem S1024x128 .i8 :=
  (arg5.slice (Rect.unit (s := S172x1024x128) (k0_off2 c (BitVec.ofNat 32 p.val)) S1x1024x128.size (k0_off2_inb c p)) (fun _ => rfl)).squeeze S1024x128 squeezes_S1x1024x128_S1024x128
abbrev dstS (c : Fin k0_t1_loop.trips) (p : Fin 4) : Memref sig .tc .vmem S256x128 .bf16 :=
  (arg6.slice (Rect.unit (s := S172x256x128) (k0_off4 c (BitVec.ofNat 32 p.val)) S1x256x128.size (k0_off4_inb c p)) (fun _ => rfl)).squeeze S256x128 squeezes_S1x256x128_S256x128

abbrev cell2 (c : Fin k0_t2_loop.trips) : DmaSems sig S_ :=
  (arg10.slice (Rect.unit (s := S43) (k0_off6 c) S1.size (k0_off6_inb c))).squeeze S_ squeezes_S1_S_
abbrev srcW2 (c : Fin k0_t2_loop.trips) (p : Fin 4) : Memref sig .tc .hbm S1024x128 .i8 :=
  arg1.slice (Rect.unit (s := S1024x22016) (k0_off8 c (BitVec.ofNat 32 p.val)) S1024x128.size (k0_off8_inb c p)) (fun _ => rfl)
abbrev srcS2 (c : Fin k0_t2_loop.trips) (p : Fin 4) : Memref sig .tc .hbm S256x128 .bf16 :=
  arg2.slice (Rect.unit (s := S256x22016) (k0_off10 c (BitVec.ofNat 32 p.val)) S256x128.size (k0_off10_inb c p)) (fun _ => rfl)
abbrev dstW2 (c : Fin k0_t2_loop.trips) (p : Fin 4) : Memref sig .tc .vmem S1024x128 .i8 :=
  (arg5.slice (Rect.unit (s := S172x1024x128) (k0_off7 c (BitVec.ofNat 32 p.val)) S1x1024x128.size (k0_off7_inb c p)) (fun _ => rfl)).squeeze S1024x128 squeezes_S1x1024x128_S1024x128
abbrev dstS2 (c : Fin k0_t2_loop.trips) (p : Fin 4) : Memref sig .tc .vmem S256x128 .bf16 :=
  (arg6.slice (Rect.unit (s := S172x256x128) (k0_off9 c (BitVec.ofNat 32 p.val)) S1x256x128.size (k0_off9_inb c p)) (fun _ => rfl)).squeeze S256x128 squeezes_S1x256x128_S256x128

variable (harg1 : arg1.IsWhole) (harg2 : arg2.IsWhole) (harg3 : arg3.IsWhole) (harg5 : arg5.IsWhole) (harg6 : arg6.IsWhole) (harg7 : arg7.IsWhole)

/-- A plane's three copies started. -/
def startPlane (c : Fin k0_t1_loop.trips) (p : Fin 4) : K F PUnit := do
  Prog.lift (.enqueueDma (srcW arg1 c p) (.here (dstW arg5 c p)) (.dma (cell1 arg10 c).sem) (harg1.wordExact_slice rfl _ (k0_off3_wordsi8 c p)) ((harg5.wordExact_slice rfl _ (k0_off2_wordsi8 c p)).reshape _ _) ⟨Or.inl rfl, trivial⟩)
  Prog.lift (.enqueueDma (srcS arg2 c p) (.here (dstS arg6 c p)) (.dma (cell1 arg10 c).sem) (harg2.wordExact_slice rfl _ (k0_off5_wordsbf16 c p)) ((harg6.wordExact_slice rfl _ (k0_off4_wordsbf16 c p)).reshape _ _) ⟨Or.inl rfl, trivial⟩)
  Prog.lift (.enqueueDma (srcS arg3 c p) (.here (dstS arg7 c p)) (.dma (cell1 arg10 c).sem) (harg3.wordExact_slice rfl _ (k0_off5_wordsbf16 c p)) ((harg7.wordExact_slice rfl _ (k0_off4_wordsbf16 c p)).reshape _ _) ⟨Or.inl rfl, trivial⟩)

/-- A plane's three copies waited for. -/
def waitPlane (c : Fin k0_t2_loop.trips) (p : Fin 4) : K F PUnit := do
  Prog.lift (.waitDma2 (cell2 arg10 c).sem (srcW2 arg1 c p) (dstW2 arg5 c p) (harg1.wordExact_slice rfl _ (k0_off8_wordsi8 c p)) ((harg5.wordExact_slice rfl _ (k0_off7_wordsi8 c p)).reshape _ _))
  Prog.lift (.waitDma2 (cell2 arg10 c).sem (srcS2 arg2 c p) (dstS2 arg6 c p) (harg2.wordExact_slice rfl _ (k0_off10_wordsbf16 c p)) ((harg6.wordExact_slice rfl _ (k0_off9_wordsbf16 c p)).reshape _ _))
  Prog.lift (.waitDma2 (cell2 arg10 c).sem (srcS2 arg3 c p) (dstS2 arg7 c p) (harg3.wordExact_slice rfl _ (k0_off10_wordsbf16 c p)) ((harg7.wordExact_slice rfl _ (k0_off9_wordsbf16 c p)).reshape _ _))

def startProg (c : Fin k0_t1_loop.trips) : K F PUnit := do
  startPlane (F := F) arg1 arg2 arg3 arg5 arg6 arg7 arg10 harg1 harg2 harg3 harg5 harg6 harg7 c 0
  startPlane (F := F) arg1 arg2 arg3 arg5 arg6 arg7 arg10 harg1 harg2 harg3 harg5 harg6 harg7 c 1
  startPlane (F := F) arg1 arg2 arg3 arg5 arg6 arg7 arg10 harg1 harg2 harg3 harg5 harg6 harg7 c 2
  startPlane (F := F) arg1 arg2 arg3 arg5 arg6 arg7 arg10 harg1 harg2 harg3 harg5 harg6 harg7 c 3
def waitProg (c : Fin k0_t2_loop.trips) : K F PUnit := do
  waitPlane (F := F) arg1 arg2 arg3 arg5 arg6 arg7 arg10 harg1 harg2 harg3 harg5 harg6 harg7 c 0
  waitPlane (F := F) arg1 arg2 arg3 arg5 arg6 arg7 arg10 harg1 harg2 harg3 harg5 harg6 harg7 c 1
  waitPlane (F := F) arg1 arg2 arg3 arg5 arg6 arg7 arg10 harg1 harg2 harg3 harg5 harg6 harg7 c 2
  waitPlane (F := F) arg1 arg2 arg3 arg5 arg6 arg7 arg10 harg1 harg2 harg3 harg5 harg6 harg7 c 3
end Copies

/-- The one-hot matrix of the permutation of a K-tile. -/
def permIdx : IVec S256x256 32 :=
  let pos := iota .tc S256x256 32 [1] iota_S256x256_d1_w32
  ori (ori (ori (shli (andi pos (broadcast S256x256 56#32)) (broadcast S256x256 2#32))
    (shli (andi pos (broadcast S256x256 1#32)) (broadcast S256x256 4#32)))
    (shli (andi pos (broadcast S256x256 6#32)) (broadcast S256x256 1#32))) (shrsi pos (broadcast S256x256 6#32))
def perm : FVec F S256x256 .bf16 :=
  truncf .bf16 (select (cmpi .eq (iota .tc S256x256 32 [0] iota_S256x256_d0_w32) permIdx)
    (broadcast S256x256 (Scalar.ofBits .f32 0x3F800000#32) : FVec F S256x256 .f32)
    (broadcast S256x256 (Scalar.ofBits .f32 0x00000000#32))) bitsLt_bf16_f32

/-- A tile of the left-hand side with its eight rows of padding. -/
def padX (v : Vec F S24x256 .bf16) : FVec F S32x256 .bf16 :=
  concatenate S32x256 0 [⟨S24x256, shapeCast S24x256 v shapeCasts_S24x256_S24x256⟩,
    ⟨S8x256, (broadcast S8x256 (Scalar.ofBits .bf16 0x0000#16) : FVec F S8x256 .bf16)⟩] concatenates_S24x256_S8x256_S32x256_d0

def xLoad (arg0 : Memref sig .tc .vmem S24x4096 .bf16) (t : Fin 16) : K F (FVec F S32x256 .bf16) := do
  let v : Vec F S24x256 .bf16 ← Prog.lift (.load arg0 (Rect.unit (s := S24x4096) ![0, 256 * t.val] S24x256.size (inbX t)).toLoadRect (View.loadsAt_vmem h_S24x256))
  pure (padX v)

/-- The left-hand tiles from tile `t` on multiplied by the loaded permutation. -/
def permsProg (arg0 : Memref sig .tc .vmem S24x4096 .bf16) : (n : ℕ) → (t : ℕ) → n + t = 16 → Mxu F → K F (Mxu F)
  | 0, _, _, s => pure s
  | n + 1, t, h, s => do
    let x ← xLoad (F := F) arg0 ⟨t, by omega⟩
    let s' : Mxu F ← s.accLhsLoaded 0 (8 * t) x (fitsP ⟨t, by omega⟩)
    permsProg arg0 n (t + 1) (by omega) s'

def xpStore (arg8 : Memref sig .tc .vmem S16x32x256 .bf16) (harg8 : arg8.IsWhole) (t : Fin 16) (v : FVec F S32x256 .f32) : K F PUnit := do
  let _ : Vec F S1x32x256 .bf16 ← Prog.lift (.load arg8 (Rect.unit (s := S16x32x256) ![t.val, 0, 0] S1x32x256.size (inbXp t)).toLoadRect (View.loadsAt_vmem h_S1x32x256))
  Prog.lift (.store arg8 (Rect.unit (s := S16x32x256) ![t.val, 0, 0] S1x32x256.size (inbXp t))
    (shapeCast S1x32x256 (truncf .bf16 v bitsLt_bf16_f32) shapeCasts_S32x256_S1x32x256) Finset.univ
    (View.stores_vmem h_S1x32x256 (harg8.storeExact_slice rfl _ (packedXp t)) (fun _ => rfl)) (.inl rfl))

/-- The permuted tiles from tile `t` on popped and stored. -/
def popsProg (arg8 : Memref sig .tc .vmem S16x32x256 .bf16) (harg8 : arg8.IsWhole) : (n : ℕ) → (t : ℕ) → n + t = 16 → Mxu F → K F (Mxu F)
  | 0, _, _, s => pure s
  | n + 1, t, h, s => do
    xpStore (F := F) arg8 harg8 ⟨t, by omega⟩ (s.read 0 (8 * t) (fitsP ⟨t, by omega⟩))
    popsProg arg8 harg8 n (t + 1) (by omega) (s.pop 0 (8 * t) 32 (fitsP ⟨t, by omega⟩))

/-- The kernel's body, structured. -/
def bodyProg (arg0 : Memref sig .tc .vmem S24x4096 .bf16) (arg1 : Memref sig .tc .hbm S1024x22016 .i8) (harg1 : arg1.IsWhole)
    (arg2 : Memref sig .tc .hbm S256x22016 .bf16) (harg2 : arg2.IsWhole) (arg3 : Memref sig .tc .hbm S256x22016 .bf16) (harg3 : arg3.IsWhole)
    (arg4 : Memref sig .tc .vmem S24x22016 .bf16) (harg4 : arg4.IsWhole) (arg5 : Memref sig .tc .vmem S172x1024x128 .i8) (harg5 : arg5.IsWhole)
    (arg6 : Memref sig .tc .vmem S172x256x128 .bf16) (harg6 : arg6.IsWhole) (arg7 : Memref sig .tc .vmem S172x256x128 .bf16) (harg7 : arg7.IsWhole)
    (arg8 : Memref sig .tc .vmem S16x32x256 .bf16) (harg8 : arg8.IsWhole) (arg9 : Memref sig .tc .vmem S16x4x2x64x128 .bf16) (harg9 : arg9.IsWhole)
    (arg10 : DmaSems sig S43) : K F PUnit := do
  Scf.Loop.for k0_t1_loop k0_t1_ok ⟨⟩ fun c _ => startProg (F := F) arg1 arg2 arg3 arg5 arg6 arg7 arg10 harg1 harg2 harg3 harg5 harg6 harg7 c
  let s1 : Mxu F ← (Mxu.init : Mxu F).pushRhs 0 0 false (perm (F := F))
  let x ← xLoad (F := F) arg0 0
  let s2 : Mxu F := s1.accLhs 0 0 0 x fits_0_32
  let s3 : Mxu F ← permsProg (F := F) arg0 15 1 rfl s2
  let s4 : Mxu F ← popsProg (F := F) arg8 harg8 16 0 rfl s3
  Scf.Loop.for k0_t2_loop k0_t2_ok ⟨⟩ fun c _ => waitProg (F := F) arg1 arg2 arg3 arg5 arg6 arg7 arg10 harg1 harg2 harg3 harg5 harg6 harg7 c
  let s5 : Mxu F ← Scf.Loop.for k0_t3_loop k0_t3_ok s4 fun c s => chunkProg (F := F) arg4 harg4 arg5 arg6 arg7 arg8 arg9 harg9 c s
  s5.exit

/-- The printed prologue's first stretch, its loop apart from the statements after it. -/
theorem part207_eq (arg0 : Memref sig .tc .vmem S24x4096 .bf16) (harg0 : arg0.IsWhole) (arg1 : Memref sig .tc .hbm S1024x22016 .i8) (harg1 : arg1.IsWhole) (arg2 : Memref sig .tc .hbm S256x22016 .bf16) (harg2 : arg2.IsWhole) (arg3 : Memref sig .tc .hbm S256x22016 .bf16) (harg3 : arg3.IsWhole) (arg4 : Memref sig .tc .vmem S24x22016 .bf16) (harg4 : arg4.IsWhole) (arg5 : Memref sig .tc .vmem S172x1024x128 .i8) (harg5 : arg5.IsWhole) (arg6 : Memref sig .tc .vmem S172x256x128 .bf16) (harg6 : arg6.IsWhole) (arg7 : Memref sig .tc .vmem S172x256x128 .bf16) (harg7 : arg7.IsWhole) (arg8 : Memref sig .tc .vmem S16x32x256 .bf16) (harg8 : arg8.IsWhole) (arg9 : Memref sig .tc .vmem S16x4x2x64x128 .bf16) (harg9 : arg9.IsWhole) (arg10 : DmaSems sig S43) :
    k0_part207 (F := F) arg0 harg0 arg1 harg1 arg2 harg2 arg3 harg3 arg4 harg4 arg5 harg5 arg6 harg6 arg7 harg7 arg8 harg8 arg9 harg9 arg10
      = (Scf.Loop.for k0_t1_loop k0_t1_ok ⟨⟩ (fun c _ => startProg (F := F) arg1 arg2 arg3 arg5 arg6 arg7 arg10 harg1 harg2 harg3 harg5 harg6 harg7 c)) >>= fun _ => (do
        let s1 : Mxu F ← (Mxu.init : Mxu F).pushRhs 0 0 false (perm (F := F))
        let x ← xLoad (F := F) arg0 0
        let s2 : Mxu F := s1.accLhs 0 0 0 x fits_0_32
        let x' ← xLoad (F := F) arg0 1
        let s3 : Mxu F ← s2.accLhsLoaded 0 8 x' fits_8_32
        let x'' ← xLoad (F := F) arg0 2
        pure ⟨broadcast S8x256 (Scalar.ofBits .bf16 0x0000#16), s3, x''⟩) := by
  chain_rfl

theorem body_eq (arg0 : Memref sig .tc .vmem S24x4096 .bf16) (harg0 : arg0.IsWhole) (arg1 : Memref sig .tc .hbm S1024x22016 .i8) (harg1 : arg1.IsWhole)
    (arg2 : Memref sig .tc .hbm S256x22016 .bf16) (harg2 : arg2.IsWhole) (arg3 : Memref sig .tc .hbm S256x22016 .bf16) (harg3 : arg3.IsWhole)
    (arg4 : Memref sig .tc .vmem S24x22016 .bf16) (harg4 : arg4.IsWhole) (arg5 : Memref sig .tc .vmem S172x1024x128 .i8) (harg5 : arg5.IsWhole)
    (arg6 : Memref sig .tc .vmem S172x256x128 .bf16) (harg6 : arg6.IsWhole) (arg7 : Memref sig .tc .vmem S172x256x128 .bf16) (harg7 : arg7.IsWhole)
    (arg8 : Memref sig .tc .vmem S16x32x256 .bf16) (harg8 : arg8.IsWhole) (arg9 : Memref sig .tc .vmem S16x4x2x64x128 .bf16) (harg9 : arg9.IsWhole)
    (arg10 : DmaSems sig S43) :
    cc0_w2_linear (F := F) arg0 harg0 arg1 harg1 arg2 harg2 arg3 harg3 arg4 harg4 arg5 harg5 arg6 harg6 arg7 harg7 arg8 harg8 arg9 harg9 arg10
      = bodyProg arg0 arg1 harg1 arg2 harg2 arg3 harg3 arg4 harg4 arg5 harg5 arg6 harg6 arg7 harg7 arg8 harg8 arg9 harg9 arg10 := by
  unfold cc0_w2_linear
  rw [part207_eq, bind_assoc]
  chain_rfl

end Cert.KernelIdeal.Hand

end
-- ==== Proof.K.Tiles.lean ====
/-
  Hand-written, untrusted. The chunk loop's straight-line parts as rules: a plane's K-tile of weights
  (`wp_deq`), a K-tile's pushes and accumulates (`wp_tiles`), with the values they leave.
-/
module

public import proofs.«01_k».proof.Proof.K.Struct
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The scratch buffers as whole memrefs: packed bytes, scales, minimums, left-hand tiles, repeats. -/
abbrev mW : Memref sig .tc .vmem S172x1024x128 .i8 := Memref.whole cc0_scratch0
abbrev mS : Memref sig .tc .vmem S172x256x128 .bf16 := Memref.whole cc0_scratch1
abbrev mM : Memref sig .tc .vmem S172x256x128 .bf16 := Memref.whole cc0_scratch2
abbrev mX : Memref sig .tc .vmem S16x32x256 .bf16 := Memref.whole cc0_scratch3
abbrev mR : Memref sig .tc .vmem S16x4x2x64x128 .bf16 := Memref.whole cc0_scratch4
abbrev hR : (mR).IsWhole := Memref.isWhole_whole _
abbrev hX : (mX).IsWhole := Memref.isWhole_whole _

/-- A whole buffer of core `c` at contents `f`. -/
abbrev pt (c : Dev nD) (b : Ref sig .tc) (f : Buf (Elt F) ((c : Thread nD τ).loc b)) : sProp 𝕄 :=
  ((c : Thread nD τ).loc b) ↦{fullShare} f

/-- The weakest precondition of a piece of the body on core `c`. -/
abbrev wpB (c : Dev nD) {α : Type} (p : K F α) (Q : α → sProp 𝕄) : sProp 𝕄 :=
  wp frame (wpE (defs₀ (F := F)) Variants.none c none) Set.univ p Q

section Tile

variable (c : Dev nD) (W : Vec F S172x1024x128 .i8) (S M : Vec F S172x256x128 .bf16) (X : Vec F S16x32x256 .bf16)

/-- The buffers the chunk loop reads, at their contents, and the repeat buffer at any. -/
def Scr : sProp 𝕄 :=
  iprop(pt c cc0_scratch0 W ∗ pt c cc0_scratch1 S ∗ pt c cc0_scratch2 M ∗ pt c cc0_scratch3 X
    ∗ (∃ f : Buf (Elt F) ((c : Thread nD τ).loc cc0_scratch4), pt c cc0_scratch4 f))

/-- The group rows of plane `p` of chunk `k` for K-tile `t`. -/
def groupRows (B : Vec F S172x256x128 .bf16) (k : Fin k0_t3_loop.trips) (t : Fin 16) (p : Fin 4) : Vec F S16x128 .bf16 :=
  ((mS.slice (Rect.unit (s := S172x256x128) (k0_off12 k (BitVec.ofNat 32 p.val)) S1x256x128.size (k0_off12_inb k p)) (fun _ => rfl)).squeeze S256x128 squeezes_S1x256x128_S256x128).view.readAt (Elt F)
    (Rect.unit (s := S256x128) ![16 * t.val, 0] S16x128.size (inbS t)).toLoadRect B

/-- The packed rows of plane `p` of chunk `k` for K-tile `t`. -/
def packedRows (k : Fin k0_t3_loop.trips) (t : Fin 16) (p : Fin 4) : Vec F S64x128 .i8 :=
  ((mW.slice (Rect.unit (s := S172x1024x128) (k0_off11 k (BitVec.ofNat 32 p.val)) S1x1024x128.size (k0_off11_inb k p)) (fun _ => rfl)).squeeze S1024x128 squeezes_S1x1024x128_S1024x128).view.readAt (Elt F)
    (Rect.unit (s := S1024x128) ![64 * t.val, 0] S64x128.size (inbW t)).toLoadRect W

/-- Plane `p`'s weights of K-tile `t` in chunk `k`. -/
def plane (k : Fin k0_t3_loop.trips) (t : Fin 16) (p : Fin 4) : FVec F S256x128 .bf16 :=
  dequant (packedRows W k t p) (repeatRows (F := F) (groupRows S k t p)) (repeatRows (F := F) (groupRows M k t p))

/-- Left-hand tile `t`, as loaded. -/
def xTile (t : Fin 16) : FVec F S32x256 .bf16 :=
  shapeCast S32x256 (mX.view.readAt (Elt F) (Rect.unit (s := S16x32x256) ![t.val, 0, 0] S1x32x256.size (inbXp t)).toLoadRect X) shapeCasts_S1x32x256_S32x256

theorem rep_value (t : Fin 16) (p : Fin 4) (q : Fin 2) (f : Buf (Elt F) ((c : Thread nD τ).loc cc0_scratch4)) (v : FVec F S64x128 .bf16) :
    shapeCast S64x128 (mR.view.readAt (Elt F) (Rect.unit (s := S16x4x2x64x128) ![t.val, p.val, q.val, 0, 0] S1x1x1x64x128.size (inbRep t p q)).toLoadRect
      ((mR.access (Rect.unit (s := S16x4x2x64x128) ![t.val, p.val, q.val, 0, 0] S1x1x1x64x128.size (inbRep t p q))).write (Elt F) f
        (shapeCast S1x1x1x64x128 v shapeCasts_S64x128_S1x1x1x64x128) Finset.univ)) shapeCasts_S1x1x1x64x128_S64x128 = v := by
  refine Eq.trans (congrArg (fun z => shapeCast S64x128 z shapeCasts_S1x1x1x64x128_S64x128)
    (View.read_write_univ (v := mR.access (Rect.unit (s := S16x4x2x64x128) ![t.val, p.val, q.val, 0, 0] S1x1x1x64x128.size (inbRep t p q))) f _)) ?_
  exact shapeCast_shapeCast v _ _

/-- A whole repeat buffer at any contents. -/
abbrev anyR : sProp 𝕄 := iprop(∃ f : Buf (Elt F) ((c : Thread nD τ).loc cc0_scratch4), pt c cc0_scratch4 f)

theorem wp_rep {α : Type} (arg : Memref sig .tc .vmem S172x256x128 .bf16) (B : Buf (Elt F) (arg.view.loc (c : Thread nD τ)))
    (k : Fin k0_t3_loop.trips) (t : Fin 16) (p : Fin 4) (q : Fin 2) {kk : FVec F S64x128 .bf16 → K F α} {Q : α → sProp 𝕄} :
    iprop((arg.view.loc (c : Thread nD τ) ↦{fullShare} B) ∗ anyR (F := F) c) ⊢
      iprop(((arg.view.loc (c : Thread nD τ) ↦{fullShare} B) -∗ anyR (F := F) c -∗ wpB c (kk (repeatRows (F := F)
          (((arg.slice (Rect.unit (s := S172x256x128) (k0_off12 k (BitVec.ofNat 32 p.val)) S1x256x128.size (k0_off12_inb k p)) (fun _ => rfl)).squeeze S256x128 squeezes_S1x256x128_S256x128).view.readAt (Elt F)
            (Rect.unit (s := S256x128) ![16 * t.val, 0] S16x128.size (inbS t)).toLoadRect B))) Q)
        -∗ wpB c (repProg arg mR hR k t p q >>= kk) Q) := by
  iintro ⟨HS, ⟨%f, HR⟩⟩ Hk
  unfold repProg
  iapply (wp_load Variants.none (c : Thread nD τ) none Set.univ (m := ((arg.slice (Rect.unit (s := S172x256x128) (k0_off12 k (BitVec.ofNat 32 p.val)) S1x256x128.size (k0_off12_inb k p)) (fun _ => rfl)).squeeze S256x128 squeezes_S1x256x128_S256x128))
    (S := Finset.univ) (q := fullShare) (f := B) (Finset.subset_univ _)) $$ [HS]
  · iexact HS
  iintro HS
  iapply (wp_load Variants.none (c : Thread nD τ) none Set.univ (S := Finset.univ) (q := fullShare) (f := f) (Finset.subset_univ _)) $$ [HR]
  · iexact HR
  iintro HR
  iapply (wp_store Variants.none (c : Thread nD τ) none Set.univ (S := Finset.univ) (f := f) (Finset.subset_univ _)) $$ [HR]
  · iexact HR
  iintro HR
  iapply (wp_load Variants.none (c : Thread nD τ) none Set.univ (S := Finset.univ) (q := fullShare) (Finset.subset_univ _)) $$ [HR]
  · iexact HR
  iintro HR
  ispecialize Hk $$ HS
  ispecialize Hk $$ [HR]
  · iexists _; iexact HR
  iapply (Entails.of_eq (congrArg (fun v => wpB c (kk v) Q) (rep_value c t p q f _).symm)) $$ Hk

end Tile

end Cert.KernelIdeal.Hand

end
-- ==== Proof.K.Unit.lean ====
/-
  Hand-written, untrusted. The matrix unit's state across the kernel, as predicates on the pure record: the sixteen
  permuted tiles parked in unit 0's rows and popped again (`Parked`), and the two running sums of a chunk (`Sums`).
-/
module

public import proofs.«01_k».proof.Proof.K.Struct
public import Idealize.ShloMosaic.Lib.Mxu.PassChain

@[expose] public section

noncomputable section

namespace Cert.KernelIdeal.Hand

open Cert.KernelIdeal Cert.KernelIdeal.Gen
open Idealize.ShloMosaic

variable {F : FTy → Type} [FloatOps F]

/-- A pass added to what an address holds: the pass alone where it holds nothing yet. -/
def deposited (o : Option (FVec F S32x256 .f32)) (p : FVec F S32x256 .f32) : FVec F S32x256 .f32 :=
  match o with
  | none => p
  | some v => addf v p

/-- What one address holds: nothing live, or `v` in live rows. -/
def Holds (s : Mxu F) (q : Fin 2) (A : ℕ) (h : Mxu.Fits A 32) (o : Option (FVec F S32x256 .f32)) : Prop :=
  match o with
  | none => ∀ r : Fin 32, s.live q (Mxu.row h r) = false
  | some v => (∀ r : Fin 32, s.live q (Mxu.row h r) = true) ∧ s.read q A h = v

theorem Holds.accBy {s : Mxu F} {q : Fin 2} {A : ℕ} {h : Mxu.Fits A 32} {o : Option (FVec F S32x256 .f32)} (H : Holds s q A h o)
    (t : Mxu.Staged F) (x : FVec F S32x256 .bf16) : Holds (s.accBy q t A x h) q A h (some (deposited o (t.pass x))) := by
  refine ⟨fun r => Mxu.live_accBy_row s q A t x h r, ?_⟩
  cases o with
  | none => exact Mxu.read_accBy_of_not_live s q A t x h H
  | some v => rw [Mxu.read_accBy_of_live s q A t x h H.1, H.2]; rfl

theorem Holds.pushAcc {s : Mxu F} {q : Fin 2} {A : ℕ} {h : Mxu.Fits A 32} {o : Option (FVec F S32x256 .f32)} (H : Holds s q A h o)
    (r : Fin 2) (hr : s.reg q r = none) (w : FVec F S256x256 .bf16) (x : FVec F S32x256 .bf16) :
    Holds (Mxu.pushAcc q r false A h s w x) q A h (some (deposited o (Mxu.passOf false (w, x)))) := by
  refine ⟨fun r' => Mxu.live_pushAcc_row q r false A h s w x r', ?_⟩
  cases o with
  | none => exact Mxu.read_pushAcc_of_not_live q r false A h s w x hr H
  | some v => rw [Mxu.read_pushAcc_of_live q r false A h s w x hr H.1, H.2]; rfl

theorem reg_pushAcc_none {s : Mxu F} (hs : ∀ q r, s.reg q r = none) (q r : Fin 2) {A : ℕ} (h : Mxu.Fits A 32)
    (w : FVec F S256x256 .bf16) (x : FVec F S32x256 .bf16) (q' r' : Fin 2) : (Mxu.pushAcc q r false A h s w x).reg q' r' = none := by
  by_cases hq : q' = q ∧ r' = r
  · obtain ⟨rfl, rfl⟩ := hq; exact Mxu.reg_pushAcc _ _ _ _ _ _ _ _
  · unfold Mxu.pushAcc
    rw [Mxu.reg_accLhs_ne _ _ _ _ _ _ _ _ hq, Mxu.reg_pushed_ne _ _ _ _ _ _ _ hq, hs]

theorem live_pushAcc (s : Mxu F) (q r : Fin 2) {A : ℕ} (h : Mxu.Fits A 32)
    (w : FVec F S256x256 .bf16) (x : FVec F S32x256 .bf16) (q' : Fin 2) (R : Fin 1024) :
    (Mxu.pushAcc q r false A h s w x).live q' R = if q' = q ∧ 4 * A ≤ R.val ∧ R.val < 4 * A + 32 then true else s.live q' R := by
  unfold Mxu.pushAcc; rw [Mxu.live_accLhs, Mxu.live_pushed]

/-- An address of the other unit keeps what it holds. -/
theorem Holds.pushAcc_other {s : Mxu F} {q' : Fin 2} {A' : ℕ} {h' : Mxu.Fits A' 32} {o : Option (FVec F S32x256 .f32)} (H : Holds s q' A' h' o)
    (q r : Fin 2) (hq : q' ≠ q) {A : ℕ} (h : Mxu.Fits A 32) (w : FVec F S256x256 .bf16) (x : FVec F S32x256 .bf16) :
    Holds (Mxu.pushAcc q r false A h s w x) q' A' h' o := by
  have hl : ∀ R, (Mxu.pushAcc q r false A h s w x).live q' R = s.live q' R := fun R => by
    rw [live_pushAcc, if_neg fun c => hq c.1]
  cases o with
  | none => exact fun r' => (hl _).trans (H r')
  | some v =>
    refine ⟨fun r' => (hl _).trans (H.1 r'), ?_⟩
    unfold Mxu.pushAcc
    rw [Mxu.read_accLhs_ne _ _ _ _ _ _ _ _ _ (Or.inl hq), Mxu.read_pushed, H.2]

/-! ## A chunk's two running sums -/

/-- Between K-tiles of a chunk: no register staged, the two addresses at `o0` and `o1`, nothing else live. -/
structure Sums (s : Mxu F) (o0 o1 : Option (FVec F S32x256 .f32)) : Prop where
  reg : ∀ q r, s.reg q r = none
  live : ∀ q R, s.live q R = true → (q = 0 ∧ 512 ≤ R.val ∧ R.val < 544) ∨ (q = 1 ∧ R.val < 32)
  h0 : Holds s 0 128 fits_128_32 o0
  h1 : Holds s 1 0 fits_0_32 o1

/-- A K-tile's two pushes and accumulates. -/
def tileMxu (s : Mxu F) (r : Fin 2) (w0 w1 : FVec F S256x256 .bf16) (x : FVec F S32x256 .bf16) : Mxu F :=
  Mxu.pushAcc 1 r false 0 fits_0_32 (Mxu.pushAcc 0 r false 128 fits_128_32 s w0 x) w1 x

theorem Sums.tile {s : Mxu F} {o0 o1 : Option (FVec F S32x256 .f32)} (H : Sums s o0 o1) (r : Fin 2)
    (w0 w1 : FVec F S256x256 .bf16) (x : FVec F S32x256 .bf16) :
    Sums (tileMxu s r w0 w1 x) (some (deposited o0 (Mxu.passOf false (w0, x)))) (some (deposited o1 (Mxu.passOf false (w1, x)))) where
  reg := reg_pushAcc_none (reg_pushAcc_none H.reg 0 r fits_128_32 w0 x) 1 r fits_0_32 w1 x
  live q R h := by
    unfold tileMxu at h
    rw [live_pushAcc, live_pushAcc] at h
    by_cases h1 : q = 1 ∧ 4 * 0 ≤ R.val ∧ R.val < 4 * 0 + 32
    · exact Or.inr ⟨h1.1, by omega⟩
    · rw [if_neg h1] at h
      by_cases h0 : q = 0 ∧ 4 * 128 ≤ R.val ∧ R.val < 4 * 128 + 32
      · exact Or.inl ⟨h0.1, by omega, by omega⟩
      · rw [if_neg h0] at h; exact H.live q R h
  h0 := (H.h0.pushAcc r (H.reg 0 r) w0 x).pushAcc_other 1 r (by decide) fits_0_32 w1 x
  h1 := (H.h1.pushAcc_other 0 r (by decide) fits_128_32 w0 x).pushAcc r (reg_pushAcc_none H.reg 0 r fits_128_32 w0 x 1 r) w1 x

/-- Both sums popped. -/
def popsMxu (s : Mxu F) : Mxu F := (s.pop 0 128 32 fits_128_32).pop 1 0 32 fits_0_32

theorem Sums.pops {s : Mxu F} {o0 o1 : Option (FVec F S32x256 .f32)} (H : Sums s o0 o1) : Sums (popsMxu s) none none := by
  have hl : ∀ q R, (popsMxu s).live q R = false := fun q R => by
    unfold popsMxu
    rw [Mxu.live_pop, Mxu.live_pop]
    split
    · rfl
    · split
      · rfl
      · next h1 h0 =>
        by_contra hc
        rcases H.live q R (by simpa using hc) with ⟨a, b, c⟩ | ⟨a, b⟩
        · exact h0 ⟨a, by omega, by omega⟩
        · exact h1 ⟨a, by omega, by omega⟩
  exact ⟨H.reg, fun q R h => absurd h (by rw [hl]; decide), fun r => hl _ _, fun r => hl _ _⟩

theorem Sums.drained {s : Mxu F} (H : Sums s none none) : s.Drained := by
  refine ⟨fun q r => by rw [H.reg]; rfl, fun q R => ?_⟩
  by_contra hc
  have hR : s.live q R = true := by simpa using hc
  rcases H.live q R hR with ⟨rfl, b, c⟩ | ⟨rfl, b⟩
  · have := H.h0 ⟨R.val - 512, by omega⟩
    rw [show Mxu.row fits_128_32 (⟨R.val - 512, by omega⟩ : Fin 32) = R from Fin.ext (by dsimp only [Mxu.row]; omega)] at this
    rw [this] at hR; exact absurd hR (by decide)
  · have := H.h1 ⟨R.val, by omega⟩
    rw [show Mxu.row fits_0_32 (⟨R.val, by omega⟩ : Fin 32) = R from Fin.ext (by dsimp only [Mxu.row]; omega)] at this
    rw [this] at hR; exact absurd hR (by decide)

/-! ## The permuted tiles -/

/-- Tiles `[m, n)` parked in unit 0's rows, tile `t` as `v t` at address `8 t`; no register staged, the slot holding the
    permutation. -/
structure Parked (v : ℕ → FVec F S32x256 .f32) (s : Mxu F) (m n : ℕ) : Prop where
  reg : ∀ q r, s.reg q r = none
  gmr : s.gmr 0 = some ⟨.bf16, false, perm (F := F)⟩
  live : ∀ q R, s.live q R = true → q = 0 ∧ 32 * m ≤ R.val ∧ R.val < 32 * n
  held : ∀ t, m ≤ t → t < n → ∀ h : Mxu.Fits (8 * t) 32, s.read 0 (8 * t) h = v t

theorem Parked.acc {v : ℕ → FVec F S32x256 .f32} {s : Mxu F} {n : ℕ} (H : Parked v s 0 n) (x : FVec F S32x256 .bf16) (h : Mxu.Fits (8 * n) 32)
    (hv : Mxu.passOf false (perm (F := F), x) = v n) : Parked v (s.accBy 0 ⟨.bf16, false, perm (F := F)⟩ (8 * n) x h) 0 (n + 1) where
  reg := H.reg
  gmr := H.gmr
  live q R hR := by
    rw [Mxu.live_accBy] at hR
    split at hR
    · next c => exact ⟨c.1, by omega, by omega⟩
    · obtain ⟨a, b, c⟩ := H.live q R hR; exact ⟨a, b, by omega⟩
  held t hm ht h' := by
    rcases Nat.lt_succ_iff_lt_or_eq.1 ht with hlt | rfl
    · rw [Mxu.read_accBy_ne _ _ _ _ _ _ _ _ _ (Or.inr (Or.inl (by omega))), H.held t hm hlt]
    · rw [Mxu.read_accBy_of_not_live, ← hv]
      intro r
      by_contra hc
      obtain ⟨-, -, c⟩ := H.live 0 _ (by simpa using hc)
      dsimp only [Mxu.row] at c; omega

theorem Parked.pop {v : ℕ → FVec F S32x256 .f32} {s : Mxu F} {m n : ℕ} (H : Parked v s m n) (h : Mxu.Fits (8 * m) 32) :
    Parked v (s.pop 0 (8 * m) 32 h) (m + 1) n where
  reg := H.reg
  gmr := H.gmr
  live q R hR := by
    rw [Mxu.live_pop] at hR
    split at hR
    · exact absurd hR (by decide)
    · next hc =>
      obtain ⟨rfl, b, c⟩ := H.live q R hR
      refine ⟨rfl, ?_, c⟩
      by_contra hlt
      exact hc ⟨rfl, by omega, by omega⟩
  held t hm ht h' := by
    rw [Mxu.read_pop_ne _ _ _ _ _ _ _ (Or.inr (Or.inr (by omega))), H.held t (by omega) ht]

/-- The first permuted tile, from the initial state. -/
theorem Parked.first {v : ℕ → FVec F S32x256 .f32} (x : FVec F S32x256 .bf16) (hv : Mxu.passOf false (perm (F := F), x) = v 0) :
    Parked v (((Mxu.init : Mxu F).pushed 0 0 false (perm (F := F))).accLhs 0 0 0 x fits_0_32) 0 1 where
  reg := reg_pushAcc_none (s := (Mxu.init : Mxu F)) (fun q r => Mxu.reg_init q r) 0 0 fits_0_32 (perm (F := F)) x
  gmr := by
    rw [Mxu.gmr_accLhs, Mxu.staged_eq, Mxu.reg_pushed_of_none _ _ _ _ _ (Mxu.reg_init 0 0)]; rfl
  live q R hR := by
    rw [Mxu.live_accLhs, Mxu.live_pushed] at hR
    split at hR
    · next c => exact ⟨c.1, by omega, by omega⟩
    · exact absurd hR (by rw [Mxu.live_init]; decide)
  held t hm ht h' := by
    obtain rfl : t = 0 := by omega
    rw [← hv]
    exact Mxu.read_pushAcc_of_not_live 0 0 false 0 h' (Mxu.init : Mxu F) (perm (F := F)) x (Mxu.reg_init 0 0) fun _ => rfl

theorem Parked.sums {v : ℕ → FVec F S32x256 .f32} {s : Mxu F} {n : ℕ} (H : Parked v s n n) : Sums s none none := by
  have hl : ∀ q R, s.live q R = false := fun q R => by
    by_contra hc
    obtain ⟨-, b, c⟩ := H.live q R (by simpa using hc); omega
  exact ⟨H.reg, fun q R h => absurd h (by rw [hl]; decide), fun r => hl _ _, fun r => hl _ _⟩

end Cert.KernelIdeal.Hand

end
-- ==== Proof.K.Chunk.lean ====
/-
  Hand-written, untrusted. A chunk as a rule: a plane's K-tile of weights (`wp_deq`), the sixteen K-tiles' pushes and
  accumulates (`wp_tiles`), with the state of the matrix unit they leave.
-/
module

public import proofs.«01_k».proof.Proof.K.Tiles
public import proofs.«01_k».proof.Proof.K.Unit
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (W : Vec F S172x1024x128 .i8) (S M : Vec F S172x256x128 .bf16) (X : Vec F S16x32x256 .bf16)

theorem wpB_pure {α : Type} (a : α) {Q : α → sProp 𝕄} : Q a ⊢ wpB (F := F) c (pure a) Q := by
  show Q a ⊢ wp frame (wpE (defs₀ (F := F)) Variants.none c none) Set.univ (.ret a) Q
  rw [wp_ret]
  iintro H
  imodintro
  iexact H

theorem wp_deq {α : Type} (k : Fin k0_t3_loop.trips) (t : Fin 16) (p : Fin 4) {kk : FVec F S256x128 .bf16 → K F α} {Q : α → sProp 𝕄} :
    Scr c W S M X ⊢ iprop((Scr c W S M X -∗ wpB c (kk (plane W S M k t p)) Q) -∗ wpB c (deqProg mW mS mM mR hR k t p >>= kk) Q) := by
  unfold Scr deqProg
  simp only [bind_assoc, pure_bind]
  iintro ⟨HW, HS, HM, HX, HR⟩ Hk
  iapply (wp_load Variants.none (c : Thread nD τ) none Set.univ (S := Finset.univ) (q := fullShare) (f := W) (Finset.subset_univ _)) $$ [HW]
  · iexact HW
  iintro HW
  iapply (wp_rep c mS S k t p 0) $$ [HS HR]
  · isplitl [HS]; · iexact HS
    iexact HR
  iintro HS HR
  iapply (wp_rep c mM M k t p 1) $$ [HM HR]
  · isplitl [HM]; · iexact HM
    iexact HR
  iintro HM HR
  iapply Hk
  isplitl [HW]; · iexact HW
  isplitl [HS]; · iexact HS
  isplitl [HM]; · iexact HM
  isplitl [HX]; · iexact HX
  iexact HR

theorem wp_xp {α : Type} (t : Fin 16) {kk : FVec F S32x256 .bf16 → K F α} {Q : α → sProp 𝕄} :
    Scr c W S M X ⊢ iprop((Scr c W S M X -∗ wpB c (kk (xTile X t)) Q) -∗ wpB c (xpLoad mX t >>= kk) Q) := by
  unfold Scr xpLoad
  simp only [bind_assoc, pure_bind]
  iintro ⟨HW, HS, HM, HX, HR⟩ Hk
  iapply (wp_load Variants.none (c : Thread nD τ) none Set.univ (S := Finset.univ) (q := fullShare) (f := X) (Finset.subset_univ _)) $$ [HX]
  · iexact HX
  iintro HX
  iapply Hk
  isplitl [HW]; · iexact HW
  isplitl [HS]; · iexact HS
  isplitl [HM]; · iexact HM
  isplitl [HX]; · iexact HX
  iexact HR

/-- Unit `u`'s weights of K-tile `t` in chunk `k`. -/
def unitW (k : Fin k0_t3_loop.trips) (t : Fin 16) (u : Fin 2) : FVec F S256x256 .bf16 :=
  wide (plane W S M k t ⟨2 * u.val, by omega⟩) (plane W S M k t ⟨2 * u.val + 1, by omega⟩)

/-- Unit `u`'s running sum in chunk `k` after `n` K-tiles. -/
def sums (k : Fin k0_t3_loop.trips) (u : Fin 2) : ℕ → Option (FVec F S32x256 .f32)
  | 0 => none
  | n + 1 => some (deposited (sums k u n) (if h : n < 16 then Mxu.passOf false (unitW W S M k ⟨n, h⟩ u, xTile X ⟨n, h⟩) else fun _ => Scalar.ofBits .f32 0#32))

theorem sums_succ (k : Fin k0_t3_loop.trips) (u : Fin 2) (t : Fin 16) : sums W S M X k u (t.val + 1)
    = some (deposited (sums W S M X k u t.val) (Mxu.passOf false (unitW W S M k t u, xTile X t))) := by
  rw [sums, dif_pos t.isLt]

theorem wp_tile {α : Type} (k : Fin k0_t3_loop.trips) (t : Fin 16) (s : Mxu F)
    (hs : Sums s (sums W S M X k 0 t.val) (sums W S M X k 1 t.val)) {kk : Mxu F → K F α} {Q : α → sProp 𝕄} :
    Scr c W S M X ⊢ iprop((∀ s', ⌜Sums s' (sums W S M X k 0 (t.val + 1)) (sums W S M X k 1 (t.val + 1))⌝ -∗ Scr c W S M X -∗ wpB c (kk s') Q)
      -∗ wpB c (tileProg mW mS mM mX mR hR k t s >>= kk) Q) := by
  have hT := hs.tile (regOf t) (unitW W S M k t 0) (unitW W S M k t 1) (xTile X t)
  rw [← sums_succ, ← sums_succ] at hT
  unfold tileProg
  simp only [bind_assoc, pure_bind]
  iintro H Hk
  iapply (wp_deq c W S M X k t 0) $$ [H]
  · iexact H
  iintro H
  iapply (wp_deq c W S M X k t 1) $$ [H]
  · iexact H
  iintro H
  iapply (wp_deq c W S M X k t 2) $$ [H]
  · iexact H
  iintro H
  iapply (wp_deq c W S M X k t 3) $$ [H]
  · iexact H
  iintro H
  iapply (Mxu.wp_pushRhs _ (Mxu.pushOk_of_none _ _ _ _ (hs.reg 0 (regOf t))))
  iapply (wp_xp c W S M X t) $$ [H]
  · iexact H
  iintro H
  iapply (Mxu.wp_pushRhs _ (Mxu.pushOk_of_none _ _ _ _ (reg_pushAcc_none hs.reg 0 (regOf t) fits_128_32 _ _ 1 (regOf t))))
  iapply (wp_xp c W S M X t) $$ [H]
  · iexact H
  iintro H
  iapply Hk $$ %(tileMxu s (regOf t) (unitW W S M k t 0) (unitW W S M k t 1) (xTile X t)) %hT H

theorem wp_tiles {α : Type} (k : Fin k0_t3_loop.trips) : ∀ (n t : ℕ) (h : n + t = 16) (s : Mxu F)
    (hs : Sums s (sums W S M X k 0 t) (sums W S M X k 1 t)) {kk : Mxu F → K F α} {Q : α → sProp 𝕄},
    Scr c W S M X ⊢ iprop((∀ s', ⌜Sums s' (sums W S M X k 0 16) (sums W S M X k 1 16)⌝ -∗ Scr c W S M X -∗ wpB c (kk s') Q)
      -∗ wpB c (tilesProg mW mS mM mX mR hR k n t h s >>= kk) Q)
  | 0, t, h, s, hs, kk, Q => by
    obtain rfl : t = 16 := by omega
    unfold tilesProg
    rw [pure_bind]
    iintro H Hk
    iapply Hk $$ %s %hs H
  | n + 1, t, h, s, hs, kk, Q => by
    unfold tilesProg
    rw [bind_assoc]
    iintro H Hk
    iapply (wp_tile c W S M X k ⟨t, _⟩ s hs) $$ [H]
    · iexact H
    iintro %s' %hs' H
    iapply (wp_tiles k n (t + 1) _ s' hs') $$ [H]
    · iexact H
    iexact Hk

/-! ## A chunk's results -/

/-- Unit `u`'s finished sum in chunk `k`. -/
def total (k : Fin k0_t3_loop.trips) (u : Fin 2) : FVec F S32x256 .f32 :=
  deposited (sums W S M X k u 15) (Mxu.passOf false (unitW W S M k 15 u, xTile X 15))

theorem sums_16 (k : Fin k0_t3_loop.trips) (u : Fin 2) : sums W S M X k u 16 = some (total W S M X k u) := sums_succ W S M X k u 15

/-- The 256 output columns of unit `u` in chunk `k`. -/
def outVal (k : Fin k0_t3_loop.trips) (u : Fin 2) : FVec F S24x256 .bf16 :=
  truncf .bf16 (extractStridedSlice S24x256 ![0, 0] (total W S M X k u) slices_S32x256_o0_0_S24x256) bitsLt_bf16_f32

theorem trips3 : k0_t3_loop.trips = 43 := by decide +kernel

def chunkOf (n : ℕ) (h : n < 22016) : Fin k0_t3_loop.trips := ⟨n / 512, by rw [trips3]; omega⟩
def unitOf (n : ℕ) : Fin 2 := ⟨n % 512 / 256, by omega⟩

/-- The whole result. -/
def outArr : FVec F S24x22016 .bf16 := fun y =>
  outVal W S M X (chunkOf (y 1).val (y 1).isLt) (unitOf (y 1).val) (Idealize.ShloMosaic.ix2 (n0 := 24) (n1 := 256) (y 0) ⟨(y 1).val % 256, by omega⟩)

variable (arg4 : Memref sig .tc .vmem S24x22016 .bf16) (harg4 : arg4.IsWhole)

/-- The first `n` columns of the output written. -/
def OutTo (g : Buf (Elt F) (arg4.view.loc (c : Thread nD τ))) (n : ℕ) : Prop :=
  ∀ y : S24x22016.Idx, (y 1).val < n → arg4.view.read (Elt F) g y = outArr W S M X y

theorem OutTo.step {g : Buf (Elt F) (arg4.view.loc (c : Thread nD τ))} (k : Fin k0_t3_loop.trips) (u : Fin 2)
    (H : OutTo c W S M X arg4 g (512 * k.val + 256 * u.val)) :
    OutTo c W S M X arg4 ((arg4.access (Rect.unit (s := S24x22016) (k0_off13 k (BitVec.ofNat 32 (256 * u.val))) S24x256.size (k0_off13_inb k u))).write (Elt F) g
      (outVal W S M X k u) Finset.univ) (512 * k.val + 256 * u.val + 256) := by
  intro y hy
  refine (View.read_writes_cons_unit arg4.view g (k0_off13_inb k u) (outVal W S M X k u) [] y (k0_off13_eq k u)).trans ?_
  split
  · next h =>
    have h1 : 512 * k.val + 256 * u.val ≤ (y 1).val ∧ (y 1).val < 512 * k.val + 256 * u.val + 256 := h 1
    have hu := u.isLt
    unfold outArr
    obtain rfl : chunkOf (y 1).val (y 1).isLt = k := Fin.ext (by dsimp only [chunkOf]; omega)
    obtain rfl : unitOf (y 1).val = u := Fin.ext (by dsimp only [unitOf]; dsimp only [chunkOf] at h1; omega)
    refine congrArg _ (funext fun a => ?_)
    match a with
    | ⟨0, _⟩ => rfl
    | ⟨1, _⟩ => exact Fin.ext (by
        show (y 1).val - (512 * ((y 1).val / 512) + 256 * ((y 1).val % 512 / 256)) = (y 1).val % 256
        omega)
  · next h =>
    refine H y ?_
    by_contra hc
    refine h fun a => ?_
    match a with
    | ⟨0, _⟩ => exact ⟨Nat.zero_le _, by show (y 0).val < 0 + 24; have := (y 0).isLt; change (y 0).val < 24 at this; omega⟩
    | ⟨1, _⟩ => exact ⟨by show 512 * k.val + 256 * u.val ≤ (y 1).val; omega, by show (y 1).val < 512 * k.val + 256 * u.val + 256; omega⟩

theorem wp_out {α : Type} (k : Fin k0_t3_loop.trips) (u : Fin 2) (v : FVec F S32x256 .f32) (hv : v = total W S M X k u)
    (g : Buf (Elt F) (arg4.view.loc (c : Thread nD τ))) (H : OutTo c W S M X arg4 g (512 * k.val + 256 * u.val))
    {kk : PUnit → K F α} {Q : α → sProp 𝕄} :
    (arg4.view.loc (c : Thread nD τ) ↦{fullShare} g) ⊢
      iprop((∀ g', ⌜OutTo c W S M X arg4 g' (512 * k.val + 256 * u.val + 256)⌝ -∗ (arg4.view.loc (c : Thread nD τ) ↦{fullShare} g') -∗ wpB c (kk ⟨⟩) Q)
        -∗ wpB c (outProg arg4 harg4 k u v >>= kk) Q) := by
  subst hv
  have hst := H.step c W S M X arg4 k u
  unfold outProg
  simp only [bind_assoc]
  iintro HO Hk
  iapply (wp_load Variants.none (c : Thread nD τ) none Set.univ (m := arg4) (S := Finset.univ) (q := fullShare) (f := g) (Finset.subset_univ _)) $$ [HO]
  · iexact HO
  iintro HO
  iapply (wp_store Variants.none (c : Thread nD τ) none Set.univ (m := arg4) (S := Finset.univ) (f := g) (Finset.subset_univ _)) $$ [HO]
  · iexact HO
  iintro HO
  iapply Hk $$ %_ %hst [HO]
  iexact HO

/-- A chunk: its 512 output columns written, the matrix unit idle again. -/
theorem wp_chunk (k : Fin k0_t3_loop.trips) (s : Mxu F) (hs : Sums s none none)
    (g : Buf (Elt F) (arg4.view.loc (c : Thread nD τ))) (H : OutTo c W S M X arg4 g (512 * k.val)) {Q : Mxu F → sProp 𝕄} :
    iprop(Scr c W S M X ∗ (arg4.view.loc (c : Thread nD τ) ↦{fullShare} g)) ⊢
      iprop((∀ s' g', ⌜Sums s' none none⌝ -∗ ⌜OutTo c W S M X arg4 g' (512 * (k.val + 1))⌝ -∗ Scr c W S M X
          -∗ (arg4.view.loc (c : Thread nD τ) ↦{fullShare} g') -∗ Q s')
        -∗ wpB c (chunkProg arg4 harg4 mW mS mM mX mR hR k s) Q) := by
  unfold chunkProg
  iintro ⟨HS, HO⟩ Hk
  iapply (wp_tiles c W S M X k 16 0 rfl s hs) $$ [HS]
  · iexact HS
  iintro %s' %hs' HS
  rw [sums_16, sums_16] at hs'
  iapply (wp_out c W S M X arg4 harg4 k 0 _ hs'.h0.2 g (by simpa using H)) $$ [HO]
  · iexact HO
  iintro %g1 %H1 HO
  iapply (wp_out c W S M X arg4 harg4 k 1 _ ((Mxu.read_pop_ne s' 0 128 fits_128_32 1 0 fits_0_32 (Or.inl (by decide))).trans hs'.h1.2) g1 (by simpa using H1)) $$ [HO]
  · iexact HO
  iintro %g2 %H2 HO
  have H3 : OutTo c W S M X arg4 g2 (512 * (k.val + 1)) := by
    rw [show 512 * (k.val + 1) = 512 * k.val + 256 * (1 : Fin 2).val + 256 from by show _ = 512 * k.val + 256 * 1 + 256; omega]; exact H2
  have hp : Sums ((s'.pop 0 128 32 fits_128_32).pop 1 0 32 fits_0_32) none none := hs'.pops
  iapply (wpB_pure c)
  iapply Hk $$ %_ %g2 %hp %H3 HS HO

/-- The chunk loop. -/
theorem wp_chunks {α : Type} (s : Mxu F) (hs : Sums s none none) (g : Buf (Elt F) (arg4.view.loc (c : Thread nD τ)))
    {kk : Mxu F → K F α} {Q : α → sProp 𝕄} :
    iprop(Scr c W S M X ∗ (arg4.view.loc (c : Thread nD τ) ↦{fullShare} g)) ⊢
      iprop((∀ s' g', ⌜Sums s' none none⌝ -∗ ⌜arg4.view.read (Elt F) g' = outArr W S M X⌝ -∗ Scr c W S M X
          -∗ (arg4.view.loc (c : Thread nD τ) ↦{fullShare} g') -∗ wpB c (kk s') Q)
        -∗ wpB c (Scf.Loop.for k0_t3_loop k0_t3_ok s (fun k s => chunkProg arg4 harg4 mW mS mM mX mR hR k s) >>= kk) Q) := by
  iintro ⟨HS, HO⟩ Hk
  iapply (Scf.wp_for_bind frame (wpE (defs₀ (F := F)) Variants.none c none) Set.univ k0_t3_loop.lb k0_t3_loop.ub k0_t3_loop.st k0_t3_ok s
    (fun k s => chunkProg arg4 harg4 mW mS mM mX mR hR k s)
    (fun n s => iprop(⌜Sums s none none⌝ ∗ Scr c W S M X ∗ ∃ g, ⌜OutTo c W S M X arg4 g (512 * n)⌝ ∗ (arg4.view.loc (c : Thread nD τ) ↦{fullShare} g)))
    (by
      intro k s
      iintro ⟨%hs, HS, %g, %hg, HO⟩
      iapply (wp_chunk c W S M X arg4 harg4 k s hs g hg) $$ [HS HO]
      · isplitl [HS]; · iexact HS
        iexact HO
      iintro %s' %g' %hs' %hg' HS HO
      isplitr; · ipureintro; exact hs'
      isplitl [HS]; · iexact HS
      iexists g'
      isplitr; · ipureintro; exact hg'
      iexact HO)) $$ [HS HO]
  · isplitr; · ipureintro; exact hs
    isplitl [HS]; · iexact HS
    iexists g
    isplitr; · ipureintro; exact fun y hy => absurd hy (by omega)
    iexact HO
  iintro %s' ⟨%hs', HS, %g', %hg', HO⟩
  have hr : arg4.view.read (Elt F) g' = outArr W S M X := funext fun y => hg' y (by
    have := (y 1).isLt; change (y 1).val < 22016 at this
    have h3 : Scf.trips k0_t3_loop.lb k0_t3_loop.ub k0_t3_loop.st = 43 := trips3
    rw [h3]; omega)
  iapply Hk $$ %s' %g' %hs' %hr HS HO

end Cert.KernelIdeal.Hand

end
-- ==== Proof.K.Geom.lean ====
/-
  Hand-written, untrusted. The copies' geometry: which elements of the operands in HBM and of the scratch buffers each
  copy touches, that these sets partition the arrays, and what the scratch buffers hold once every copy has landed.
-/
module

public import proofs.«01_k».proof.Proof.K.Tiles
public import Idealize.ShloMosaic.Lib.ValueLayout
public import Idealize.ShloMosaic.Lib.Ring
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The operands left in HBM: packed bytes, scales, minimums. -/
abbrev gW : Memref sig .tc .hbm S1024x22016 .i8 := Memref.whole main_arg1
abbrev gS : Memref sig .tc .hbm S256x22016 .bf16 := Memref.whole main_arg2
abbrev gM : Memref sig .tc .hbm S256x22016 .bf16 := Memref.whole main_arg3

theorem trips1 : k0_t1_loop.trips = 43 := by decide +kernel
theorem trips2 : k0_t2_loop.trips = 43 := by decide +kernel
abbrev c1 (k : Fin 43) : Fin k0_t1_loop.trips := Fin.cast trips1.symm k
abbrev c2 (k : Fin 43) : Fin k0_t2_loop.trips := Fin.cast trips2.symm k

/-! ## What lands -/

/-- The scratch buffers once every copy has landed: slot `b` holds columns `[128 b, 128 (b + 1))`. -/
def finW (f : Vec F S1024x22016 .i8) : Vec F S172x1024x128 .i8 := fun y =>
  f (ix2 (n0 := 1024) (n1 := 22016) (y 1) ⟨128 * (y 0).val + (y 2).val, by
    have h0 : (y 0).val < 172 := (y 0).isLt
    have h2 : (y 2).val < 128 := (y 2).isLt
    omega⟩)
def finS (f : Vec F S256x22016 .bf16) : Vec F S172x256x128 .bf16 := fun y =>
  f (ix2 (n0 := 256) (n1 := 22016) (y 1) ⟨128 * (y 0).val + (y 2).val, by
    have h0 : (y 0).val < 172 := (y 0).isLt
    have h2 : (y 2).val < 128 := (y 2).isLt
    omega⟩)

theorem readW (k : Fin 43) (p : Fin 4) (f : Vec F S1024x22016 .i8) :
    (srcW gW (c1 k) p).view.read (Elt F) f = (dstW mW (c1 k) p).view.read (Elt F) (finW f) := by
  funext x
  obtain ⟨r, l, rfl⟩ : ∃ (r : Fin 1024) (l : Fin 128), x = ix2 r l := ⟨x 0, x 1, (ix2_eta x).symm⟩
  show f ((Rect.unit (s := S1024x22016) (k0_off3 (c1 k) (BitVec.ofNat 32 p.val)) S1024x128.size (k0_off3_inb (c1 k) p)).emb (ix2 r l))
    = finW f ((Rect.unit (s := S172x1024x128) (k0_off2 (c1 k) (BitVec.ofNat 32 p.val)) S1x1024x128.size (k0_off2_inb (c1 k) p)).emb
        (Shape.reshapeEquiv squeezes_S1x1024x128_S1024x128.numel_eq (ix2 r l)))
  have e : (Shape.reshapeEquiv squeezes_S1x1024x128_S1024x128.numel_eq (ix2 r l) : S1x1024x128.Idx) = ix3 (⟨0, Nat.one_pos⟩ : Fin 1) r l :=
    ValueIdx.reshapeEquiv_ix2_1ab _ r l
  rw [e]
  unfold finW
  refine congrArg f (funext fun a => Fin.ext ?_)
  have h3 := k0_off3_eq (c1 k) p
  have h2 := k0_off2_eq (c1 k) p
  match a with
  | ⟨0, _⟩ =>
    show k0_off3 (c1 k) (BitVec.ofNat 32 p.val) 0 + 1 * r.val = k0_off2 (c1 k) (BitVec.ofNat 32 p.val) 1 + 1 * r.val
    rw [h3, h2]; rfl
  | ⟨1, _⟩ =>
    show k0_off3 (c1 k) (BitVec.ofNat 32 p.val) 1 + 1 * l.val
      = 128 * (k0_off2 (c1 k) (BitVec.ofNat 32 p.val) 0 + 1 * 0) + (k0_off2 (c1 k) (BitVec.ofNat 32 p.val) 2 + 1 * l.val)
    rw [h3, h2]
    show 512 * k.val + 128 * p.val + 1 * l.val = 128 * (4 * k.val + p.val + 1 * 0) + (0 + 1 * l.val)
    omega

theorem readS (k : Fin 43) (p : Fin 4) (f : Vec F S256x22016 .bf16) :
    (srcS gS (c1 k) p).view.read (Elt F) f = (dstS mS (c1 k) p).view.read (Elt F) (finS f) := by
  funext x
  obtain ⟨r, l, rfl⟩ : ∃ (r : Fin 256) (l : Fin 128), x = ix2 r l := ⟨x 0, x 1, (ix2_eta x).symm⟩
  show f ((Rect.unit (s := S256x22016) (k0_off5 (c1 k) (BitVec.ofNat 32 p.val)) S256x128.size (k0_off5_inb (c1 k) p)).emb (ix2 r l))
    = finS f ((Rect.unit (s := S172x256x128) (k0_off4 (c1 k) (BitVec.ofNat 32 p.val)) S1x256x128.size (k0_off4_inb (c1 k) p)).emb
        (Shape.reshapeEquiv squeezes_S1x256x128_S256x128.numel_eq (ix2 r l)))
  have e : (Shape.reshapeEquiv squeezes_S1x256x128_S256x128.numel_eq (ix2 r l) : S1x256x128.Idx) = ix3 (⟨0, Nat.one_pos⟩ : Fin 1) r l :=
    ValueIdx.reshapeEquiv_ix2_1ab _ r l
  rw [e]
  unfold finS
  refine congrArg f (funext fun a => Fin.ext ?_)
  have h3 := k0_off5_eq (c1 k) p
  have h2 := k0_off4_eq (c1 k) p
  match a with
  | ⟨0, _⟩ =>
    show k0_off5 (c1 k) (BitVec.ofNat 32 p.val) 0 + 1 * r.val = k0_off4 (c1 k) (BitVec.ofNat 32 p.val) 1 + 1 * r.val
    rw [h3, h2]; rfl
  | ⟨1, _⟩ =>
    show k0_off5 (c1 k) (BitVec.ofNat 32 p.val) 1 + 1 * l.val
      = 128 * (k0_off4 (c1 k) (BitVec.ofNat 32 p.val) 0 + 1 * 0) + (k0_off4 (c1 k) (BitVec.ofNat 32 p.val) 2 + 1 * l.val)
    rw [h3, h2]
    show 512 * k.val + 128 * p.val + 1 * l.val = 128 * (4 * k.val + p.val + 1 * 0) + (0 + 1 * l.val)
    omega

theorem landW (k : Fin 43) (p : Fin 4) (f : Vec F S1024x22016 .i8) (fd : Vec F S172x1024x128 .i8) :
    ∀ i ∈ (dstW mW (c1 k) p).view.set, (dstW mW (c1 k) p).view.write (Elt F) fd ((srcW gW (c1 k) p).view.read (Elt F) f) Finset.univ i = finW f i := by
  intro i hi
  rw [readW, View.write_read_eq_piecewise]
  exact Finset.piecewise_eq_of_mem _ _ _ hi

theorem landS (k : Fin 43) (p : Fin 4) (f : Vec F S256x22016 .bf16) (fd : Vec F S172x256x128 .bf16) :
    ∀ i ∈ (dstS mS (c1 k) p).view.set, (dstS mS (c1 k) p).view.write (Elt F) fd ((srcS gS (c1 k) p).view.read (Elt F) f) Finset.univ i = finS f i := by
  intro i hi
  rw [readS, View.write_read_eq_piecewise]
  exact Finset.piecewise_eq_of_mem _ _ _ hi

/-! ## The partitions -/

abbrev B := Fin 43 × Fin 4

theorem mem_dstW (b : B) (y : S172x1024x128.Idx) : y ∈ ((dstW mW (c1 b.1) b.2).view.set : Finset S172x1024x128.Idx) ↔ (y 0).val = 4 * b.1.val + b.2.val := by
  rw [show ((dstW mW (c1 b.1) b.2).view.set : Finset S172x1024x128.Idx) = (Rect.unit (s := S172x1024x128) (k0_off2 (c1 b.1) (BitVec.ofNat 32 b.2.val)) S1x1024x128.size (k0_off2_inb (c1 b.1) b.2)).set
    from (View.set_reshape _ _).trans (View.set_slice_whole _ _), Rect.mem_set_unit, k0_off2_eq]
  have h1 : (y 1).val < 1024 := (y 1).isLt
  have h2 : (y 2).val < 128 := (y 2).isLt
  constructor
  · intro H; have a0 : 4 * b.1.val + b.2.val ≤ (y 0).val ∧ (y 0).val < 4 * b.1.val + b.2.val + 1 := H 0; omega
  · intro H a
    match a with
    | ⟨0, _⟩ => show 4 * b.1.val + b.2.val ≤ (y 0).val ∧ (y 0).val < 4 * b.1.val + b.2.val + 1; omega
    | ⟨1, _⟩ => show 0 ≤ (y 1).val ∧ (y 1).val < 0 + 1024; omega
    | ⟨2, _⟩ => show 0 ≤ (y 2).val ∧ (y 2).val < 0 + 128; omega

theorem mem_dstS (b : B) (y : S172x256x128.Idx) : y ∈ ((dstS mS (c1 b.1) b.2).view.set : Finset S172x256x128.Idx) ↔ (y 0).val = 4 * b.1.val + b.2.val := by
  rw [show ((dstS mS (c1 b.1) b.2).view.set : Finset S172x256x128.Idx) = (Rect.unit (s := S172x256x128) (k0_off4 (c1 b.1) (BitVec.ofNat 32 b.2.val)) S1x256x128.size (k0_off4_inb (c1 b.1) b.2)).set
    from (View.set_reshape _ _).trans (View.set_slice_whole _ _), Rect.mem_set_unit, k0_off4_eq]
  have h1 : (y 1).val < 256 := (y 1).isLt
  have h2 : (y 2).val < 128 := (y 2).isLt
  constructor
  · intro H; have a0 : 4 * b.1.val + b.2.val ≤ (y 0).val ∧ (y 0).val < 4 * b.1.val + b.2.val + 1 := H 0; omega
  · intro H a
    match a with
    | ⟨0, _⟩ => show 4 * b.1.val + b.2.val ≤ (y 0).val ∧ (y 0).val < 4 * b.1.val + b.2.val + 1; omega
    | ⟨1, _⟩ => show 0 ≤ (y 1).val ∧ (y 1).val < 0 + 256; omega
    | ⟨2, _⟩ => show 0 ≤ (y 2).val ∧ (y 2).val < 0 + 128; omega

theorem mem_srcW (b : B) (y : S1024x22016.Idx) : y ∈ ((srcW gW (c1 b.1) b.2).view.set : Finset S1024x22016.Idx) ↔ (y 1).val / 128 = 4 * b.1.val + b.2.val := by
  rw [show ((srcW gW (c1 b.1) b.2).view.set : Finset S1024x22016.Idx) = (Rect.unit (s := S1024x22016) (k0_off3 (c1 b.1) (BitVec.ofNat 32 b.2.val)) S1024x128.size (k0_off3_inb (c1 b.1) b.2)).set
    from View.set_slice_whole _ _, Rect.mem_set_unit, k0_off3_eq]
  have h1 : (y 0).val < 1024 := (y 0).isLt
  constructor
  · intro H; have a0 : 512 * b.1.val + 128 * b.2.val ≤ (y 1).val ∧ (y 1).val < 512 * b.1.val + 128 * b.2.val + 128 := H 1; omega
  · intro H a
    match a with
    | ⟨0, _⟩ => show 0 ≤ (y 0).val ∧ (y 0).val < 0 + 1024; omega
    | ⟨1, _⟩ => show 512 * b.1.val + 128 * b.2.val ≤ (y 1).val ∧ (y 1).val < 512 * b.1.val + 128 * b.2.val + 128; omega

theorem mem_srcS (b : B) (y : S256x22016.Idx) : y ∈ ((srcS gS (c1 b.1) b.2).view.set : Finset S256x22016.Idx) ↔ (y 1).val / 128 = 4 * b.1.val + b.2.val := by
  rw [show ((srcS gS (c1 b.1) b.2).view.set : Finset S256x22016.Idx) = (Rect.unit (s := S256x22016) (k0_off5 (c1 b.1) (BitVec.ofNat 32 b.2.val)) S256x128.size (k0_off5_inb (c1 b.1) b.2)).set
    from View.set_slice_whole _ _, Rect.mem_set_unit, k0_off5_eq]
  have h1 : (y 0).val < 256 := (y 0).isLt
  constructor
  · intro H; have a0 : 512 * b.1.val + 128 * b.2.val ≤ (y 1).val ∧ (y 1).val < 512 * b.1.val + 128 * b.2.val + 128 := H 1; omega
  · intro H a
    match a with
    | ⟨0, _⟩ => show 0 ≤ (y 0).val ∧ (y 0).val < 0 + 256; omega
    | ⟨1, _⟩ => show 512 * b.1.val + 128 * b.2.val ≤ (y 1).val ∧ (y 1).val < 512 * b.1.val + 128 * b.2.val + 128; omega

/-- Sets told apart by a block number below 172 partition their type. -/
theorem parts_disjoint {T : Type} [DecidableEq T] (I : B → Finset T) (n : T → ℕ) (h : ∀ b y, y ∈ I b ↔ n y = 4 * b.1.val + b.2.val) :
    ∀ b b', b ≠ b' → Disjoint (I b) (I b') := by
  intro b b' hne
  rw [Finset.disjoint_left]
  intro y hy hy'
  rw [h] at hy hy'
  have := b.2.isLt
  have := b'.2.isLt
  exact hne (Prod.ext (Fin.ext (by omega)) (Fin.ext (by omega)))
theorem parts_cover {T : Type} [Fintype T] [DecidableEq T] (I : B → Finset T) (n : T → ℕ) (hn : ∀ y, n y < 172) (h : ∀ b y, y ∈ I b ↔ n y = 4 * b.1.val + b.2.val) :
    Finset.univ.biUnion I = Finset.univ := by
  ext y
  simp only [Finset.mem_biUnion, Finset.mem_univ, true_and, iff_true]
  have := hn y
  refine ⟨(⟨n y / 4, by omega⟩, ⟨n y % 4, by omega⟩), (h _ _).mpr ?_⟩
  show n y = 4 * (n y / 4) + n y % 4
  omega

end Cert.KernelIdeal.Hand

end
-- ==== Proof.K.Copies.lean ====
/-
  Hand-written, untrusted. The copies as rules: every chunk's twelve transfers are one batch on the chunk's own
  semaphore cell, issued by the first loop and collected by the second.
-/
module

public import proofs.«01_k».proof.Proof.K.Chunk
public import proofs.«01_k».proof.Proof.K.Geom
public import Idealize.ShloMosaic.Lib.ValueLayout
public import Idealize.ShloMosaic.Lib.Ring
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem cell_eq (k : Fin 43) : (cell2 cc0_scratch5 (c2 k)).sem = (cell1 cc0_scratch5 (c1 k)).sem := by
  revert k; decide +kernel

/-- Chunk `k`'s semaphore cell. -/
abbrev cellOf (k : Fin 43) : SemLoc sig := .dma (cell1 cc0_scratch5 (c1 k)).sem

/-- What each of a chunk's transfers adds to the cell: plane by plane the packed bytes, the scales, the minimums. -/
def amt (t : Fin 12) : ℕ := if t.val % 3 = 0 then 4096 else 2048
theorem amt_pos (t : Fin 12) : 0 < amt t := by unfold amt; split <;> decide
theorem sum0 (p : Fin 4) : Transfers.sumTo amt (3 * p.val) = 8192 * p.val := by revert p; decide +kernel
theorem sum12 : Transfers.sumTo amt 12 = 32768 := by decide +kernel

theorem bigSep_fin4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]; rfl
theorem bigSep_fin3 {M : Type} [URA M] (Φ : Fin 3 → sProp M) : bigSep Finset.univ Φ = iprop(Φ 0 ∗ Φ 1 ∗ Φ 2) := by
  rw [show (Finset.univ : Finset (Fin 3)) = {0, 1, 2} by decide, bigSep_insert (by decide), bigSep_insert (by decide), bigSep_singleton]; rfl

theorem amount_W (k : Fin 43) (p : Fin 4) (h) : (dstW mW (c1 k) p).view.amount (cellOf k) = amt ⟨3 * p.val, h⟩ := by
  unfold amt; rw [if_pos (show 3 * p.val % 3 = 0 by omega)]; rfl
theorem amount_S (k : Fin 43) (p : Fin 4) (h) : (dstS mS (c1 k) p).view.amount (cellOf k) = amt ⟨3 * p.val + 1, h⟩ := by
  unfold amt; rw [if_neg (show ¬ (3 * p.val + 1) % 3 = 0 by omega)]; rfl
theorem amount_M (k : Fin 43) (p : Fin 4) (h) : (dstS mM (c1 k) p).view.amount (cellOf k) = amt ⟨3 * p.val + 1 + 1, h⟩ := by
  unfold amt; rw [if_neg (show ¬ (3 * p.val + 1 + 1) % 3 = 0 by omega)]; rfl

section Copies

variable (c : Dev nD) (f1 : Vec F S1024x22016 .i8) (f2 f3 : Vec F S256x22016 .bf16)
  (g0 : Vec F S172x1024x128 .i8) (g1 g2 : Vec F S172x256x128 .bf16)

/-- A plane's sources and its slots of the scratch buffers, before its copies. -/
def prePlane (k : Fin 43) (p : Fin 4) : sProp 𝕄 :=
  iprop((((srcW gW (c1 k) p).view.loc (c : Thread nD τ)) ↦[(srcW gW (c1 k) p).view.set]{fullShare} f1)
    ∗ (((dstW mW (c1 k) p).view.loc (c : Thread nD τ)) ↦[(dstW mW (c1 k) p).view.set]{fullShare} g0)
    ∗ (((srcS gS (c1 k) p).view.loc (c : Thread nD τ)) ↦[(srcS gS (c1 k) p).view.set]{fullShare} f2)
    ∗ (((dstS mS (c1 k) p).view.loc (c : Thread nD τ)) ↦[(dstS mS (c1 k) p).view.set]{fullShare} g1)
    ∗ (((srcS gM (c1 k) p).view.loc (c : Thread nD τ)) ↦[(srcS gM (c1 k) p).view.set]{fullShare} f3)
    ∗ (((dstS mM (c1 k) p).view.loc (c : Thread nD τ)) ↦[(dstS mM (c1 k) p).view.set]{fullShare} g2))

def dlvW (k : Fin 43) (p : Fin 4) : sProp 𝕄 :=
  iprop((((dstW mW (c1 k) p).view.loc (c : Thread nD τ)) ↦[(dstW mW (c1 k) p).view.set]{fullShare} (finW f1))
    ∗ (((srcW gW (c1 k) p).view.loc (c : Thread nD τ)) ↦[(srcW gW (c1 k) p).view.set]{fullShare} f1))
def dlvS (k : Fin 43) (p : Fin 4) : sProp 𝕄 :=
  iprop((((dstS mS (c1 k) p).view.loc (c : Thread nD τ)) ↦[(dstS mS (c1 k) p).view.set]{fullShare} (finS f2))
    ∗ (((srcS gS (c1 k) p).view.loc (c : Thread nD τ)) ↦[(srcS gS (c1 k) p).view.set]{fullShare} f2))
def dlvM (k : Fin 43) (p : Fin 4) : sProp 𝕄 :=
  iprop((((dstS mM (c1 k) p).view.loc (c : Thread nD τ)) ↦[(dstS mM (c1 k) p).view.set]{fullShare} (finS f3))
    ∗ (((srcS gM (c1 k) p).view.loc (c : Thread nD τ)) ↦[(srcS gM (c1 k) p).view.set]{fullShare} f3))

/-- A chunk's deliveries, in the order of issue. -/
def dlv (k : Fin 43) (t : Fin 12) : sProp 𝕄 :=
  if t.val % 3 = 0 then dlvW c f1 k ⟨t.val / 3, by omega⟩
  else if t.val % 3 = 1 then dlvS c f2 k ⟨t.val / 3, by omega⟩ else dlvM c f3 k ⟨t.val / 3, by omega⟩

instance (k : Fin 43) (t : Fin 12) : Storable (upEmb : UEmb _ 𝕄) (dlv c f1 f2 f3 k t) := by
  unfold dlv; split
  · unfold dlvW; infer_instance
  · split
    · unfold dlvS; infer_instance
    · unfold dlvM; infer_instance

theorem dlv_0 (k : Fin 43) (p : Fin 4) (h) : dlv c f1 f2 f3 k ⟨3 * p.val, h⟩ = dlvW c f1 k p := by
  unfold dlv; rw [if_pos (show 3 * p.val % 3 = 0 by omega)]; congr 1; exact Fin.ext (show 3 * p.val / 3 = p.val by omega)
theorem dlv_1 (k : Fin 43) (p : Fin 4) (h) : dlv c f1 f2 f3 k ⟨3 * p.val + 1, h⟩ = dlvS c f2 k p := by
  unfold dlv; rw [if_neg (show ¬ (3 * p.val + 1) % 3 = 0 by omega), if_pos (show (3 * p.val + 1) % 3 = 1 by omega)]
  congr 1; exact Fin.ext (show (3 * p.val + 1) / 3 = p.val by omega)
theorem dlv_2 (k : Fin 43) (p : Fin 4) (h) : dlv c f1 f2 f3 k ⟨3 * p.val + 1 + 1, h⟩ = dlvM c f3 k p := by
  unfold dlv; rw [if_neg (show ¬ (3 * p.val + 1 + 1) % 3 = 0 by omega), if_neg (show ¬ (3 * p.val + 1 + 1) % 3 = 1 by omega)]
  congr 1; exact Fin.ext (show (3 * p.val + 1 + 1) / 3 = p.val by omega)

theorem landed_W (k : Fin 43) (p : Fin 4) (h) :
    iprop(((dstW mW (c1 k) p).view.loc (c : Thread nD τ) ↦[(dstW mW (c1 k) p).view.set]{fullShare}
        ((dstW mW (c1 k) p).view.write (Elt F) g0 (ReadAs.same.apply ((srcW gW (c1 k) p).view.read (Elt F) f1)) Finset.univ))
      ∗ ((srcW gW (c1 k) p).view.loc (c : Thread nD τ) ↦[(srcW gW (c1 k) p).view.set]{fullShare} f1))
      ⊢ dlv c f1 f2 f3 k ⟨3 * p.val, h⟩ := by
  rw [dlv_0]; unfold dlvW
  exact sep_mono (Entails.of_eq (pointsTo_congr (landW k p f1 g0))) .rfl
theorem landed_S (k : Fin 43) (p : Fin 4) (h) :
    iprop(((dstS mS (c1 k) p).view.loc (c : Thread nD τ) ↦[(dstS mS (c1 k) p).view.set]{fullShare}
        ((dstS mS (c1 k) p).view.write (Elt F) g1 (ReadAs.same.apply ((srcS gS (c1 k) p).view.read (Elt F) f2)) Finset.univ))
      ∗ ((srcS gS (c1 k) p).view.loc (c : Thread nD τ) ↦[(srcS gS (c1 k) p).view.set]{fullShare} f2))
      ⊢ dlv c f1 f2 f3 k ⟨3 * p.val + 1, h⟩ := by
  rw [dlv_1]; unfold dlvS
  exact sep_mono (Entails.of_eq (pointsTo_congr (landS k p f2 g1))) .rfl
theorem landed_M (k : Fin 43) (p : Fin 4) (h) :
    iprop(((dstS mM (c1 k) p).view.loc (c : Thread nD τ) ↦[(dstS mM (c1 k) p).view.set]{fullShare}
        ((dstS mM (c1 k) p).view.write (Elt F) g2 (ReadAs.same.apply ((srcS gM (c1 k) p).view.read (Elt F) f3)) Finset.univ))
      ∗ ((srcS gM (c1 k) p).view.loc (c : Thread nD τ) ↦[(srcS gM (c1 k) p).view.set]{fullShare} f3))
      ⊢ dlv c f1 f2 f3 k ⟨3 * p.val + 1 + 1, h⟩ := by
  rw [dlv_2]; unfold dlvM
  exact sep_mono (Entails.of_eq (pointsTo_congr (landS k p f3 g2))) .rfl

/-- Chunk `k`'s batch with `j` transfers issued and `u` units consumed. -/
abbrev batch (k : Fin 43) (j u : ℕ) : sProp 𝕄 :=
  Transfers.MixedBatch (countersEmb (U := Pipeline.UD sig nD τ)) (c : Thread nD τ) (cellOf k) () amt (dlv c f1 f2 f3 k) j u

theorem wp_startPlane (k : Fin 43) (p : Fin 4) {α : Type} {kk : PUnit → K F α} {Q : α → sProp 𝕄} :
    iprop(prePlane c f1 f2 f3 g0 g1 g2 k p ∗ batch c f1 f2 f3 k (3 * p.val) 0)
      ⊢ iprop((batch c f1 f2 f3 k (3 * p.val + 1 + 1 + 1) 0 -∗ wpB c (kk ⟨⟩) Q)
        -∗ wpB c (startPlane (F := F) gW gS gM mW mS mM cc0_scratch5 (Memref.isWhole_whole _) (Memref.isWhole_whole _) (Memref.isWhole_whole _) (Memref.isWhole_whole _) (Memref.isWhole_whole _) (Memref.isWhole_whole _) (c1 k) p >>= kk) Q) := by
  unfold startPlane prePlane
  simp only [bind_assoc, pure_bind]
  iintro ⟨⟨H1, H2, H3, H4, H5, H6⟩, HB⟩ Hk
  iapply (Transfers.wp_dmaMixedBatch (countersEmb (U := Pipeline.UD sig nD τ)) Variants.none (c : Thread nD τ) none (src := srcW gW (c1 k) p) (dst := dstW mW (c1 k) p) (via := ReadAs.same) (sm := cellOf k) (fs := f1) (fd := g0) (q := fullShare) (D := dlv c f1 f2 f3 k) () amt (Finset.Subset.refl _)
    (show 3 * p.val < 12 by omega) (amount_W k p _) (Nat.zero_le _)
    (landed_W c f1 f2 f3 g0 k p _)) $$ [H1 H2 HB]
  · isplitl [H1]; · iexact H1
    isplitl [H2]; · iexact H2
    iexact HB
  iintro HB
  iapply (Transfers.wp_dmaMixedBatch (countersEmb (U := Pipeline.UD sig nD τ)) Variants.none (c : Thread nD τ) none (src := srcS gS (c1 k) p) (dst := dstS mS (c1 k) p) (via := ReadAs.same) (sm := cellOf k) (fs := f2) (fd := g1) (q := fullShare) (D := dlv c f1 f2 f3 k) () amt (Finset.Subset.refl _)
    (show 3 * p.val + 1 < 12 by omega) (amount_S k p _) (Nat.zero_le _)
    (landed_S c f1 f2 f3 g1 k p _)) $$ [H3 H4 HB]
  · isplitl [H3]; · iexact H3
    isplitl [H4]; · iexact H4
    iexact HB
  iintro HB
  iapply (Transfers.wp_dmaMixedBatch (countersEmb (U := Pipeline.UD sig nD τ)) Variants.none (c : Thread nD τ) none (src := srcS gM (c1 k) p) (dst := dstS mM (c1 k) p) (via := ReadAs.same) (sm := cellOf k) (fs := f3) (fd := g2) (q := fullShare) (D := dlv c f1 f2 f3 k) () amt (Finset.Subset.refl _)
    (show 3 * p.val + 1 + 1 < 12 by omega) (amount_M k p _) (Nat.zero_le _)
    (landed_M c f1 f2 f3 g2 k p _)) $$ [H5 H6 HB]
  · isplitl [H5]; · iexact H5
    isplitl [H6]; · iexact H6
    iexact HB
  iexact Hk

/-- A chunk before its copies start. -/
def preChunk (k : Fin 43) : sProp 𝕄 :=
  iprop(semVal ((c : Thread nD τ), cellOf k) 0 ∗ bigSep Finset.univ fun p : Fin 4 => prePlane c f1 f2 f3 g0 g1 g2 k p)
/-- A chunk once they all have landed. -/
def postChunk (k : Fin 43) : sProp 𝕄 :=
  iprop(semVal ((c : Thread nD τ), cellOf k) 0 ∗ bigSep Finset.univ fun p : Fin 4 => iprop(dlvW c f1 k p ∗ dlvS c f2 k p ∗ dlvM c f3 k p))

theorem dlv_all (k : Fin 43) : (bigSep Finset.univ (dlv c f1 f2 f3 k) : sProp 𝕄)
    = bigSep Finset.univ fun p : Fin 4 => iprop(dlvW c f1 k p ∗ dlvS c f2 k p ∗ dlvM c f3 k p) := by
  rw [bigSep_univ_equiv (finProdFinEquiv : Fin 4 × Fin 3 ≃ Fin (4 * 3)), bigSep_univ_prod]
  refine bigSep_congr fun p _ => ?_
  rw [bigSep_fin3]
  have e0 : (finProdFinEquiv (p, (0 : Fin 3)) : Fin 12) = ⟨3 * p.val, by omega⟩ := Fin.ext (show 0 + 3 * p.val = 3 * p.val by omega)
  have e1 : (finProdFinEquiv (p, (1 : Fin 3)) : Fin 12) = ⟨3 * p.val + 1, by omega⟩ := Fin.ext (show 1 + 3 * p.val = 3 * p.val + 1 by omega)
  have e2 : (finProdFinEquiv (p, (2 : Fin 3)) : Fin 12) = ⟨3 * p.val + 1 + 1, by omega⟩ := Fin.ext (show 2 + 3 * p.val = 3 * p.val + 1 + 1 by omega)
  rw [e0, e1, e2, dlv_0, dlv_1, dlv_2]

theorem wp_start (k : Fin 43) {α : Type} {kk : PUnit → K F α} {Q : α → sProp 𝕄} :
    preChunk c f1 f2 f3 g0 g1 g2 k
      ⊢ iprop((batch c f1 f2 f3 k 12 0 -∗ wpB c (kk ⟨⟩) Q)
        -∗ wpB c (startProg (F := F) gW gS gM mW mS mM cc0_scratch5 (Memref.isWhole_whole _) (Memref.isWhole_whole _) (Memref.isWhole_whole _) (Memref.isWhole_whole _) (Memref.isWhole_whole _) (Memref.isWhole_whole _) (c1 k) >>= kk) Q) := by
  unfold preChunk startProg
  rw [bigSep_fin4]
  simp only [bind_assoc, pure_bind]
  iintro ⟨Hv, H0, H1, H2, H3⟩ Hk
  imod (Transfers.mixedBatch_alloc' (Lvl := ℕ) (countersEmb (U := Pipeline.UD sig nD τ)) (c : Thread nD τ) () amt (dlv c f1 f2 f3 k) (sm := cellOf k) (E := Set.univ)) $$ Hv with HB
  iapply (wp_startPlane c f1 f2 f3 g0 g1 g2 k 0) $$ [H0 HB]
  · isplitl [H0]; · iexact H0
    iexact HB
  iintro HB
  iapply (wp_startPlane c f1 f2 f3 g0 g1 g2 k 1) $$ [H1 HB]
  · isplitl [H1]; · iexact H1
    iexact HB
  iintro HB
  iapply (wp_startPlane c f1 f2 f3 g0 g1 g2 k 2) $$ [H2 HB]
  · isplitl [H2]; · iexact H2
    iexact HB
  iintro HB
  iapply (wp_startPlane c f1 f2 f3 g0 g1 g2 k 3) $$ [H3 HB]
  · isplitl [H3]; · iexact H3
    iexact HB
  iexact Hk

/-! ## The waits -/

theorem wp_waitPlane (k : Fin 43) (p : Fin 4) (hp : p.val < 3) (W : Waits sig Unit) {α : Type} {kk : PUnit → K F α} {Q : α → sProp 𝕄} :
    iprop(batch c f1 f2 f3 k 12 (8192 * p.val) ∗ owes (c : Thread nD τ) 0 W)
      ⊢ iprop((∀ W', batch c f1 f2 f3 k 12 (8192 * p.val + 4096 + 2048 + 2048) -∗ owes (c : Thread nD τ) 0 W' -∗ wpB c (kk ⟨⟩) Q)
        -∗ wpB c (waitPlane (F := F) gW gS gM mW mS mM cc0_scratch5 (Memref.isWhole_whole _) (Memref.isWhole_whole _) (Memref.isWhole_whole _) (Memref.isWhole_whole _) (Memref.isWhole_whole _) (Memref.isWhole_whole _) (c2 k) p >>= kk) Q) := by
  unfold waitPlane
  simp only [bind_assoc, pure_bind]
  rw [cell_eq]
  iintro ⟨HB, HO⟩ Hk
  iapply (Transfers.wp_waitMixedBatch (countersEmb (U := Pipeline.UD sig nD τ)) Variants.none (c : Thread nD τ) none () (D := dlv c f1 f2 f3 k) (u := 8192 * p.val) (J := 4096) rfl (by rw [sum12]; omega)) $$ [HB HO]
  · isplitl [HB]; · iexact HB
    iexact HO
  iintro ⟨HB, HO⟩
  iapply (Transfers.wp_waitMixedBatch (countersEmb (U := Pipeline.UD sig nD τ)) Variants.none (c : Thread nD τ) none () (D := dlv c f1 f2 f3 k) (u := 8192 * p.val + 4096) (J := 2048) rfl (by rw [sum12]; omega)) $$ [HB HO]
  · isplitl [HB]; · iexact HB
    iexact HO
  iintro ⟨HB, HO⟩
  iapply (Transfers.wp_waitMixedBatch (countersEmb (U := Pipeline.UD sig nD τ)) Variants.none (c : Thread nD τ) none () (D := dlv c f1 f2 f3 k) (u := 8192 * p.val + 4096 + 2048) (J := 2048) rfl (by rw [sum12]; omega)) $$ [HB HO]
  · isplitl [HB]; · iexact HB
    iexact HO
  iintro ⟨HB, HO⟩
  iapply Hk $$ %_ HB HO

theorem wp_waitLast (k : Fin 43) (W : Waits sig Unit) {α : Type} {kk : PUnit → K F α} {Q : α → sProp 𝕄} :
    iprop(batch c f1 f2 f3 k 12 24576 ∗ owes (c : Thread nD τ) 0 W)
      ⊢ iprop((∀ W', postChunk c f1 f2 f3 k -∗ owes (c : Thread nD τ) 0 W' -∗ wpB c (kk ⟨⟩) Q)
        -∗ wpB c (waitPlane (F := F) gW gS gM mW mS mM cc0_scratch5 (Memref.isWhole_whole _) (Memref.isWhole_whole _) (Memref.isWhole_whole _) (Memref.isWhole_whole _) (Memref.isWhole_whole _) (Memref.isWhole_whole _) (c2 k) 3 >>= kk) Q) := by
  unfold waitPlane postChunk
  rw [← dlv_all]
  simp only [bind_assoc, pure_bind]
  rw [cell_eq]
  iintro ⟨HB, HO⟩ Hk
  iapply (Transfers.wp_waitMixedBatch (countersEmb (U := Pipeline.UD sig nD τ)) Variants.none (c : Thread nD τ) none () (D := dlv c f1 f2 f3 k) (u := 24576) (J := 4096) rfl (by rw [sum12]; omega)) $$ [HB HO]
  · isplitl [HB]; · iexact HB
    iexact HO
  iintro ⟨HB, HO⟩
  iapply (Transfers.wp_waitMixedBatch (countersEmb (U := Pipeline.UD sig nD τ)) Variants.none (c : Thread nD τ) none () (D := dlv c f1 f2 f3 k) (u := 24576 + 4096) (J := 2048) rfl (by rw [sum12]; omega)) $$ [HB HO]
  · isplitl [HB]; · iexact HB
    iexact HO
  iintro ⟨HB, HO⟩
  iapply (Transfers.wp_waitMixedBatchAll (countersEmb (U := Pipeline.UD sig nD τ)) Variants.none (c : Thread nD τ) none () (D := dlv c f1 f2 f3 k) (u := 24576 + 4096 + 2048) (J := 2048) rfl amt_pos (by rw [sum12])) $$ [HB HO]
  · isplitl [HB]; · iexact HB
    iexact HO
  iintro ⟨HD, Hv, HO⟩
  iapply Hk $$ %_ [HD Hv] HO
  isplitl [Hv]; · iexact Hv
  iexact HD

theorem wp_wait (k : Fin 43) (W : Waits sig Unit) {α : Type} {kk : PUnit → K F α} {Q : α → sProp 𝕄} :
    iprop(batch c f1 f2 f3 k 12 0 ∗ owes (c : Thread nD τ) 0 W)
      ⊢ iprop((∀ W', postChunk c f1 f2 f3 k -∗ owes (c : Thread nD τ) 0 W' -∗ wpB c (kk ⟨⟩) Q)
        -∗ wpB c (waitProg (F := F) gW gS gM mW mS mM cc0_scratch5 (Memref.isWhole_whole _) (Memref.isWhole_whole _) (Memref.isWhole_whole _) (Memref.isWhole_whole _) (Memref.isWhole_whole _) (Memref.isWhole_whole _) (c2 k) >>= kk) Q) := by
  unfold waitProg
  simp only [bind_assoc, pure_bind]
  iintro ⟨HB, HO⟩ Hk
  iapply (wp_waitPlane c f1 f2 f3 k 0 (by decide) W) $$ [HB HO]
  · isplitl [HB]; · iexact HB
    iexact HO
  iintro %W1 HB HO
  iapply (wp_waitPlane c f1 f2 f3 k 1 (by decide) W1) $$ [HB HO]
  · isplitl [HB]; · iexact HB
    iexact HO
  iintro %W2 HB HO
  iapply (wp_waitPlane c f1 f2 f3 k 2 (by decide) W2) $$ [HB HO]
  · isplitl [HB]; · iexact HB
    iexact HO
  iintro %W3 HB HO
  iapply (wp_waitLast c f1 f2 f3 k W3) $$ [HB HO]
  · isplitl [HB]; · iexact HB
    iexact HO
  iexact Hk

end Copies

end Cert.KernelIdeal.Hand

end
-- ==== Proof.K.Prolog.lean ====
/-
  Hand-written, untrusted. The permuted left-hand tiles: each tile of the left-hand side padded to 32 rows, multiplied by
  the one-hot matrix of the permutation, popped, rounded and stored in its slot.
-/
module

public import proofs.«01_k».proof.Proof.K.Chunk
public import proofs.«01_k».proof.Proof.K.Unit
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

variable (c : Dev nD) (arg0 : Memref sig .tc .vmem S24x4096 .bf16) (f0 : Buf (Elt F) (arg0.view.loc (c : Thread nD τ)))

/-- Tile `t` of the left-hand side, padded. -/
def xIn (t : Fin 16) : FVec F S32x256 .bf16 :=
  padX (arg0.view.readAt (Elt F) (Rect.unit (s := S24x4096) ![0, 256 * t.val] S24x256.size (inbX t)).toLoadRect f0)

/-- It, permuted. -/
def permVal (t : ℕ) : FVec F S32x256 .f32 :=
  if h : t < 16 then Mxu.passOf false (perm (F := F), xIn c arg0 f0 ⟨t, h⟩) else fun _ => Scalar.ofBits .f32 0#32

theorem permVal_eq (t : Fin 16) : Mxu.passOf false (perm (F := F), xIn c arg0 f0 t) = permVal c arg0 f0 t.val := by
  rw [permVal, dif_pos t.isLt]

theorem wp_xLoad {α : Type} (t : Fin 16) {kk : FVec F S32x256 .bf16 → K F α} {Q : α → sProp 𝕄} :
    (arg0.view.loc (c : Thread nD τ) ↦{fullShare} f0) ⊢
      iprop(((arg0.view.loc (c : Thread nD τ) ↦{fullShare} f0) -∗ wpB c (kk (xIn c arg0 f0 t)) Q) -∗ wpB c (xLoad arg0 t >>= kk) Q) := by
  unfold xLoad
  simp only [bind_assoc, pure_bind]
  iintro HX Hk
  iapply (wp_load Variants.none (c : Thread nD τ) none Set.univ (m := arg0) (S := Finset.univ) (q := fullShare) (f := f0) (Finset.subset_univ _)) $$ [HX]
  · iexact HX
  iintro HX
  iapply Hk
  iexact HX

theorem wp_perms {α : Type} : ∀ (n t : ℕ) (h : n + t = 16) (s : Mxu F) (hs : Parked (permVal c arg0 f0) s 0 t)
    {kk : Mxu F → K F α} {Q : α → sProp 𝕄},
    (arg0.view.loc (c : Thread nD τ) ↦{fullShare} f0) ⊢
      iprop((∀ s', ⌜Parked (permVal c arg0 f0) s' 0 16⌝ -∗ (arg0.view.loc (c : Thread nD τ) ↦{fullShare} f0) -∗ wpB c (kk s') Q)
        -∗ wpB c (permsProg arg0 n t h s >>= kk) Q)
  | 0, t, h, s, hs, kk, Q => by
    obtain rfl : t = 16 := by omega
    unfold permsProg
    rw [pure_bind]
    iintro H Hk
    iapply Hk $$ %s %hs H
  | n + 1, t, h, s, hs, kk, Q => by
    unfold permsProg
    simp only [bind_assoc]
    iintro H Hk
    iapply (wp_xLoad c arg0 f0 ⟨t, _⟩) $$ [H]
    · iexact H
    iintro H
    iapply (Mxu.wp_accLhsLoaded _ _ hs.gmr)
    iapply (wp_perms n (t + 1) _ _ (hs.acc _ _ (permVal_eq c arg0 f0 ⟨t, _⟩))) $$ [H]
    · iexact H
    iexact Hk

/-! ## The slots -/

/-- The first `n` slots hold their permuted tiles, rounded. -/
def XTo (X : Vec F S16x32x256 .bf16) (n : ℕ) : Prop :=
  ∀ t : Fin 16, t.val < n → xTile X t = truncf .bf16 (permVal c arg0 f0 t.val) bitsLt_bf16_f32

theorem XTo.step {X : Vec F S16x32x256 .bf16} (t : Fin 16) (H : XTo c arg0 f0 X t.val) :
    XTo c arg0 f0 ((mX.access (Rect.unit (s := S16x32x256) ![t.val, 0, 0] S1x32x256.size (inbXp t))).write (Elt F) X
      (shapeCast S1x32x256 (truncf .bf16 (permVal c arg0 f0 t.val) bitsLt_bf16_f32) shapeCasts_S32x256_S1x32x256) Finset.univ) (t.val + 1) := by
  intro t' ht'
  by_cases he : t' = t
  · subst he
    refine Eq.trans (congrArg (fun z => shapeCast S32x256 z shapeCasts_S1x32x256_S32x256)
      (View.read_write_univ (v := mX.access (Rect.unit (s := S16x32x256) ![t'.val, 0, 0] S1x32x256.size (inbXp t'))) X _)) ?_
    exact shapeCast_shapeCast _ _ _
  · rw [← H t' (by have : t'.val ≠ t.val := fun h => he (Fin.ext h); omega)]
    unfold xTile
    refine congrArg (fun z => shapeCast S32x256 z shapeCasts_S1x32x256_S32x256) (funext fun x => ?_)
    refine View.read_writes_cons_unit_of_not_mem mX.view X (inbXp t) _ [] _ rfl (0 : Fin 3) ?_
    have hx : (x 0).val < 1 := (x 0).isLt
    have hne : t'.val ≠ t.val := fun h => he (Fin.ext h)
    show t'.val + 1 * (x 0).val < t.val ∨ t.val + 1 ≤ t'.val + 1 * (x 0).val
    omega

theorem wp_xpStore {α : Type} (X : Vec F S16x32x256 .bf16) (t : Fin 16) (v : FVec F S32x256 .f32) {kk : PUnit → K F α} {Q : α → sProp 𝕄} :
    pt c cc0_scratch3 X ⊢
      iprop((pt c cc0_scratch3 ((mX.access (Rect.unit (s := S16x32x256) ![t.val, 0, 0] S1x32x256.size (inbXp t))).write (Elt F) X
          (shapeCast S1x32x256 (truncf .bf16 v bitsLt_bf16_f32) shapeCasts_S32x256_S1x32x256) Finset.univ) -∗ wpB c (kk ⟨⟩) Q)
        -∗ wpB c (xpStore mX hX t v >>= kk) Q) := by
  unfold xpStore
  simp only [bind_assoc]
  iintro HX Hk
  iapply (wp_load Variants.none (c : Thread nD τ) none Set.univ (m := mX) (S := Finset.univ) (q := fullShare) (f := X) (Finset.subset_univ _)) $$ [HX]
  · iexact HX
  iintro HX
  iapply (wp_store Variants.none (c : Thread nD τ) none Set.univ (m := mX) (S := Finset.univ) (f := X) (Finset.subset_univ _)) $$ [HX]
  · iexact HX
  iintro HX
  iapply Hk
  iexact HX

theorem wp_pops {α : Type} : ∀ (n t : ℕ) (h : n + t = 16) (s : Mxu F) (hs : Parked (permVal c arg0 f0) s t 16)
    (X : Vec F S16x32x256 .bf16) (hX' : XTo c arg0 f0 X t) {kk : Mxu F → K F α} {Q : α → sProp 𝕄},
    pt c cc0_scratch3 X ⊢
      iprop((∀ s' X', ⌜Sums s' none none⌝ -∗ ⌜XTo c arg0 f0 X' 16⌝ -∗ pt c cc0_scratch3 X' -∗ wpB c (kk s') Q)
        -∗ wpB c (popsProg mX hX n t h s >>= kk) Q)
  | 0, t, h, s, hs, X, hX', kk, Q => by
    obtain rfl : t = 16 := by omega
    have hsum := hs.sums
    unfold popsProg
    rw [pure_bind]
    iintro H Hk
    iapply Hk $$ %s %X %hsum %hX' H
  | n + 1, t, h, s, hs, X, hX', kk, Q => by
    have hst := hX'.step c arg0 f0 (⟨t, by omega⟩ : Fin 16)
    unfold popsProg
    rw [hs.held t le_rfl (by omega), bind_assoc]
    iintro H Hk
    iapply (wp_xpStore c X ⟨t, _⟩ _) $$ [H]
    · iexact H
    iintro H
    iapply (wp_pops n (t + 1) _ _ (hs.pop _) _ hst) $$ [H]
    · iexact H
    iexact Hk

/-- The prologue between the copies' starts and their waits. -/
theorem wp_prolog {α : Type} (X : Vec F S16x32x256 .bf16) {kk : Mxu F → K F α} {Q : α → sProp 𝕄} :
    iprop((arg0.view.loc (c : Thread nD τ) ↦{fullShare} f0) ∗ pt c cc0_scratch3 X) ⊢
      iprop((∀ s' X', ⌜Sums s' none none⌝ -∗ ⌜XTo c arg0 f0 X' 16⌝ -∗ (arg0.view.loc (c : Thread nD τ) ↦{fullShare} f0)
          -∗ pt c cc0_scratch3 X' -∗ wpB c (kk s') Q)
        -∗ wpB c ((Mxu.init : Mxu F).pushRhs 0 0 false (perm (F := F)) >>= fun s1 => xLoad arg0 0 >>= fun x =>
            permsProg arg0 15 1 rfl (s1.accLhs 0 0 0 x fits_0_32) >>= fun s3 => popsProg mX hX 16 0 rfl s3 >>= kk) Q) := by
  iintro ⟨H0, HX⟩ Hk
  iapply (Mxu.wp_pushRhs _ (Mxu.pushOk_of_none _ _ _ _ (Mxu.reg_init 0 0)))
  iapply (wp_xLoad c arg0 f0 0) $$ [H0]
  · iexact H0
  iintro H0
  iapply (wp_perms c arg0 f0 15 1 rfl _ (Parked.first _ (permVal_eq c arg0 f0 0))) $$ [H0]
  · iexact H0
  iintro %s' %hs' H0
  iapply (wp_pops c arg0 f0 16 0 rfl s' hs' X (fun t ht => absurd ht (by omega))) $$ [HX]
  · iexact HX
  iintro %s2 %X' %hs2 %hX' HX
  iapply Hk $$ %s2 %X' %hs2 %hX' H0 HX

end Cert.KernelIdeal.Hand

end
-- ==== Proof.K.Loops.lean ====
/-
  Hand-written, untrusted. The two copy loops, and the whole body: every argument and scratch buffer in, the result
  and every buffer back.
-/
module

public import proofs.«01_k».proof.Proof.K.Copies
public import proofs.«01_k».proof.Proof.K.Prolog
public import Idealize.ShloMosaic.Lib.ValueLayout
public import Idealize.ShloMosaic.Lib.Ring
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem bigSep_sep' {M : Type} [URA M] {I : Type} (s : Finset I) (Φ Ψ : I → sProp M) :
    bigSep s (fun i => iprop(Φ i ∗ Ψ i)) = iprop(bigSep s Φ ∗ bigSep s Ψ) := BI.bigSep_sep s Φ Ψ

/-- One summand of forty-three, the others apart: those before it already at `Ψ`. -/
theorem step_in {M : Type} [URA M] (Φ Ψ : Fin 43 → sProp M) (k : Fin 43) :
    bigSep Finset.univ (fun i : Fin 43 => if i.val < k.val then Ψ i else Φ i)
      = iprop(Φ k ∗ bigSep (Finset.univ.erase k) (fun i : Fin 43 => if i.val < k.val then Ψ i else Φ i)) := by
  rw [bigSep_univ_split k, if_neg (Nat.lt_irrefl _)]; rfl
theorem step_out {M : Type} [URA M] (Φ Ψ : Fin 43 → sProp M) (k : Fin 43) :
    bigSep Finset.univ (fun i : Fin 43 => if i.val < k.val + 1 then Ψ i else Φ i)
      = iprop(Ψ k ∗ bigSep (Finset.univ.erase k) (fun i : Fin 43 => if i.val < k.val then Ψ i else Φ i)) := by
  rw [bigSep_univ_split k, if_pos (Nat.lt_succ_self _)]
  refine congrArg (fun P => iprop(Ψ k ∗ P)) (bigSep_congr fun i hi => ?_)
  have hne : i.val ≠ k.val := fun h => Finset.ne_of_mem_erase hi (Fin.ext h)
  by_cases h : i.val < k.val
  · rw [if_pos h, if_pos (by omega)]
  · rw [if_neg h, if_neg (by omega)]
theorem all_in {M : Type} [URA M] (Φ Ψ : Fin 43 → sProp M) : bigSep Finset.univ (fun i : Fin 43 => if i.val < 0 then Ψ i else Φ i) = bigSep Finset.univ Φ :=
  bigSep_congr fun i _ => if_neg (Nat.not_lt_zero _)
theorem all_out {M : Type} [URA M] (Φ Ψ : Fin 43 → sProp M) (n : ℕ) (hn : n = 43) : bigSep Finset.univ (fun i : Fin 43 => if i.val < n then Ψ i else Φ i) = bigSep Finset.univ Ψ :=
  bigSep_congr fun i _ => if_pos (by omega)

section Loops

variable (c : Dev nD) (f1 : Vec F S1024x22016 .i8) (f2 f3 : Vec F S256x22016 .bf16)
  (g0 : Vec F S172x1024x128 .i8) (g1 g2 : Vec F S172x256x128 .bf16)

theorem wp_startLoop {α : Type} {kk : PUnit → K F α} {Q : α → sProp 𝕄} :
    bigSep Finset.univ (preChunk c f1 f2 f3 g0 g1 g2)
      ⊢ iprop((bigSep Finset.univ (fun k => batch c f1 f2 f3 k 12 0) -∗ wpB c (kk ⟨⟩) Q)
        -∗ wpB c (Scf.Loop.for k0_t1_loop k0_t1_ok ⟨⟩ (fun k _ => startProg (F := F) gW gS gM mW mS mM cc0_scratch5 (Memref.isWhole_whole _) (Memref.isWhole_whole _) (Memref.isWhole_whole _) (Memref.isWhole_whole _) (Memref.isWhole_whole _) (Memref.isWhole_whole _) k) >>= kk) Q) := by
  iintro H Hk
  iapply (Scf.wp_for_bind frame (wpE (defs₀ (F := F)) Variants.none c none) Set.univ k0_t1_loop.lb k0_t1_loop.ub k0_t1_loop.st k0_t1_ok (⟨⟩ : PUnit)
    (fun k _ => startProg (F := F) gW gS gM mW mS mM cc0_scratch5 (Memref.isWhole_whole _) (Memref.isWhole_whole _) (Memref.isWhole_whole _) (Memref.isWhole_whole _) (Memref.isWhole_whole _) (Memref.isWhole_whole _) k)
    (fun n _ => bigSep Finset.univ (fun i : Fin 43 => if i.val < n then batch c f1 f2 f3 i 12 0 else preChunk c f1 f2 f3 g0 g1 g2 i))
    (by
      intro k a
      obtain ⟨k', rfl⟩ : ∃ k' : Fin 43, k = c1 k' := ⟨Fin.cast trips1 k, rfl⟩
      rw [show (c1 k').val = k'.val from rfl, step_in, step_out, ← bind_pure (startProg (F := F) gW gS gM mW mS mM cc0_scratch5 (Memref.isWhole_whole _) (Memref.isWhole_whole _) (Memref.isWhole_whole _) (Memref.isWhole_whole _) (Memref.isWhole_whole _) (Memref.isWhole_whole _) (c1 k'))]
      iintro ⟨H, HR⟩
      iapply (wp_start c f1 f2 f3 g0 g1 g2 k') $$ H
      iintro HB
      iapply (wpB_pure c)
      isplitl [HB]; · iexact HB
      iexact HR)) $$ [H]
  · rw [all_in]; iexact H
  iintro %s' H
  iapply Hk $$ [H]
  iapply (Entails.of_eq (all_out (preChunk c f1 f2 f3 g0 g1 g2) (fun k => batch c f1 f2 f3 k 12 0) _ trips1)) $$ H

theorem wp_waitLoop (W : Waits sig Unit) {α : Type} {kk : PUnit → K F α} {Q : α → sProp 𝕄} :
    iprop(bigSep Finset.univ (fun k => batch c f1 f2 f3 k 12 0) ∗ owes (c : Thread nD τ) 0 W)
      ⊢ iprop((∀ W', bigSep Finset.univ (postChunk c f1 f2 f3) -∗ owes (c : Thread nD τ) 0 W' -∗ wpB c (kk ⟨⟩) Q)
        -∗ wpB c (Scf.Loop.for k0_t2_loop k0_t2_ok ⟨⟩ (fun k _ => waitProg (F := F) gW gS gM mW mS mM cc0_scratch5 (Memref.isWhole_whole _) (Memref.isWhole_whole _) (Memref.isWhole_whole _) (Memref.isWhole_whole _) (Memref.isWhole_whole _) (Memref.isWhole_whole _) k) >>= kk) Q) := by
  iintro ⟨H, HO⟩ Hk
  iapply (Scf.wp_for_bind frame (wpE (defs₀ (F := F)) Variants.none c none) Set.univ k0_t2_loop.lb k0_t2_loop.ub k0_t2_loop.st k0_t2_ok (⟨⟩ : PUnit)
    (fun k _ => waitProg (F := F) gW gS gM mW mS mM cc0_scratch5 (Memref.isWhole_whole _) (Memref.isWhole_whole _) (Memref.isWhole_whole _) (Memref.isWhole_whole _) (Memref.isWhole_whole _) (Memref.isWhole_whole _) k)
    (fun n _ => iprop((∃ W, owes (c : Thread nD τ) 0 W) ∗ bigSep Finset.univ (fun i : Fin 43 => if i.val < n then postChunk c f1 f2 f3 i else batch c f1 f2 f3 i 12 0)))
    (by
      intro k a
      obtain ⟨k', rfl⟩ : ∃ k' : Fin 43, k = c2 k' := ⟨Fin.cast trips2 k, rfl⟩
      rw [show (c2 k').val = k'.val from rfl, step_in, step_out, ← bind_pure (waitProg (F := F) gW gS gM mW mS mM cc0_scratch5 (Memref.isWhole_whole _) (Memref.isWhole_whole _) (Memref.isWhole_whole _) (Memref.isWhole_whole _) (Memref.isWhole_whole _) (Memref.isWhole_whole _) (c2 k'))]
      iintro ⟨⟨%W, HO⟩, H, HR⟩
      iapply (wp_wait c f1 f2 f3 k' W) $$ [H HO]
      · isplitl [H]; · iexact H
        iexact HO
      iintro %W' HP HO
      iapply (wpB_pure c)
      isplitl [HO]; · iexists W'; iexact HO
      isplitl [HP]; · iexact HP
      iexact HR)) $$ [H HO]
  · rw [all_in]
    isplitl [HO]; · iexists W; iexact HO
    iexact H
  iintro %s' ⟨⟨%W', HO⟩, H⟩
  iapply Hk $$ %W' [H] HO
  iapply (Entails.of_eq (all_out (fun k => batch c f1 f2 f3 k 12 0) (postChunk c f1 f2 f3) _ trips2)) $$ H

/-! ## Whole buffers and their pieces -/

theorem blocks_gW (f : Vec F S1024x22016 .i8) : (pt c main_arg1 f : sProp 𝕄)
    = bigSep Finset.univ fun k : Fin 43 => bigSep Finset.univ fun p : Fin 4 =>
        (((srcW gW (c1 k) p).view.loc (c : Thread nD τ)) ↦[(srcW gW (c1 k) p).view.set]{fullShare} f : sProp 𝕄) :=
  (Ring.pointsTo_blocks (ℓ := (c : Thread nD τ).loc main_arg1) (q := fullShare)
    (fun b : B => (((srcW gW (c1 b.1) b.2)).view.set : Finset S1024x22016.Idx))
    (parts_disjoint _ (fun y : S1024x22016.Idx => (y 1).val / 128) mem_srcW)
    (parts_cover _ (fun y : S1024x22016.Idx => (y 1).val / 128) (fun y => by have := (y 1).isLt; change (y 1).val < 22016 at this; omega) mem_srcW) f).trans (bigSep_univ_prod _)
theorem blocks_gS (f : Vec F S256x22016 .bf16) : (pt c main_arg2 f : sProp 𝕄)
    = bigSep Finset.univ fun k : Fin 43 => bigSep Finset.univ fun p : Fin 4 =>
        (((srcS gS (c1 k) p).view.loc (c : Thread nD τ)) ↦[(srcS gS (c1 k) p).view.set]{fullShare} f : sProp 𝕄) :=
  (Ring.pointsTo_blocks (ℓ := (c : Thread nD τ).loc main_arg2) (q := fullShare)
    (fun b : B => (((srcS gS (c1 b.1) b.2)).view.set : Finset S256x22016.Idx))
    (parts_disjoint _ (fun y : S256x22016.Idx => (y 1).val / 128) mem_srcS)
    (parts_cover _ (fun y : S256x22016.Idx => (y 1).val / 128) (fun y => by have := (y 1).isLt; change (y 1).val < 22016 at this; omega) mem_srcS) f).trans (bigSep_univ_prod _)
theorem blocks_gM (f : Vec F S256x22016 .bf16) : (pt c main_arg3 f : sProp 𝕄)
    = bigSep Finset.univ fun k : Fin 43 => bigSep Finset.univ fun p : Fin 4 =>
        (((srcS gM (c1 k) p).view.loc (c : Thread nD τ)) ↦[(srcS gM (c1 k) p).view.set]{fullShare} f : sProp 𝕄) :=
  (Ring.pointsTo_blocks (ℓ := (c : Thread nD τ).loc main_arg3) (q := fullShare)
    (fun b : B => (((srcS gM (c1 b.1) b.2)).view.set : Finset S256x22016.Idx))
    (parts_disjoint _ (fun y : S256x22016.Idx => (y 1).val / 128) mem_srcS)
    (parts_cover _ (fun y : S256x22016.Idx => (y 1).val / 128) (fun y => by have := (y 1).isLt; change (y 1).val < 22016 at this; omega) mem_srcS) f).trans (bigSep_univ_prod _)
theorem blocks_mW (f : Vec F S172x1024x128 .i8) : (pt c cc0_scratch0 f : sProp 𝕄)
    = bigSep Finset.univ fun k : Fin 43 => bigSep Finset.univ fun p : Fin 4 =>
        (((dstW mW (c1 k) p).view.loc (c : Thread nD τ)) ↦[(dstW mW (c1 k) p).view.set]{fullShare} f : sProp 𝕄) :=
  (Ring.pointsTo_blocks (ℓ := (c : Thread nD τ).loc cc0_scratch0) (q := fullShare)
    (fun b : B => (((dstW mW (c1 b.1) b.2)).view.set : Finset S172x1024x128.Idx))
    (parts_disjoint _ (fun y : S172x1024x128.Idx => (y 0).val) mem_dstW)
    (parts_cover _ (fun y : S172x1024x128.Idx => (y 0).val) (fun y => (y 0).isLt) mem_dstW) f).trans (bigSep_univ_prod _)
theorem blocks_mS (f : Vec F S172x256x128 .bf16) : (pt c cc0_scratch1 f : sProp 𝕄)
    = bigSep Finset.univ fun k : Fin 43 => bigSep Finset.univ fun p : Fin 4 =>
        (((dstS mS (c1 k) p).view.loc (c : Thread nD τ)) ↦[(dstS mS (c1 k) p).view.set]{fullShare} f : sProp 𝕄) :=
  (Ring.pointsTo_blocks (ℓ := (c : Thread nD τ).loc cc0_scratch1) (q := fullShare)
    (fun b : B => (((dstS mS (c1 b.1) b.2)).view.set : Finset S172x256x128.Idx))
    (parts_disjoint _ (fun y : S172x256x128.Idx => (y 0).val) mem_dstS)
    (parts_cover _ (fun y : S172x256x128.Idx => (y 0).val) (fun y => (y 0).isLt) mem_dstS) f).trans (bigSep_univ_prod _)
theorem blocks_mM (f : Vec F S172x256x128 .bf16) : (pt c cc0_scratch2 f : sProp 𝕄)
    = bigSep Finset.univ fun k : Fin 43 => bigSep Finset.univ fun p : Fin 4 =>
        (((dstS mM (c1 k) p).view.loc (c : Thread nD τ)) ↦[(dstS mM (c1 k) p).view.set]{fullShare} f : sProp 𝕄) :=
  (Ring.pointsTo_blocks (ℓ := (c : Thread nD τ).loc cc0_scratch2) (q := fullShare)
    (fun b : B => (((dstS mM (c1 b.1) b.2)).view.set : Finset S172x256x128.Idx))
    (parts_disjoint _ (fun y : S172x256x128.Idx => (y 0).val) mem_dstS)
    (parts_cover _ (fun y : S172x256x128.Idx => (y 0).val) (fun y => (y 0).isLt) mem_dstS) f).trans (bigSep_univ_prod _)

theorem split_all : iprop(bigSep Finset.univ (fun k : Fin 43 => semVal ((c : Thread nD τ), cellOf k) 0)
      ∗ pt c main_arg1 f1 ∗ pt c cc0_scratch0 g0 ∗ pt c main_arg2 f2 ∗ pt c cc0_scratch1 g1 ∗ pt c main_arg3 f3 ∗ pt c cc0_scratch2 g2)
    ⊢ (bigSep Finset.univ (preChunk c f1 f2 f3 g0 g1 g2) : sProp 𝕄) := by
  rw [blocks_gW, blocks_gS, blocks_gM, blocks_mW, blocks_mS, blocks_mM,
    show preChunk c f1 f2 f3 g0 g1 g2 = fun k => preChunk c f1 f2 f3 g0 g1 g2 k from rfl]
  simp only [preChunk, prePlane, bigSep_sep']
  exact .rfl

theorem join_all : (bigSep Finset.univ (postChunk c f1 f2 f3) : sProp 𝕄)
    ⊢ iprop(bigSep Finset.univ (fun k : Fin 43 => semVal ((c : Thread nD τ), cellOf k) 0)
      ∗ (pt c cc0_scratch0 (finW f1) ∗ pt c main_arg1 f1) ∗ (pt c cc0_scratch1 (finS f2) ∗ pt c main_arg2 f2) ∗ pt c cc0_scratch2 (finS f3) ∗ pt c main_arg3 f3) := by
  rw [blocks_gW, blocks_gS, blocks_gM, blocks_mW, blocks_mS, blocks_mM,
    show postChunk c f1 f2 f3 = fun k => postChunk c f1 f2 f3 k from rfl]
  simp only [postChunk, dlvW, dlvS, dlvM, bigSep_sep']
  exact .rfl

end Loops

end Cert.KernelIdeal.Hand

end
-- ==== Proof.K.Body.lean ====
/-
  Hand-written, untrusted. The whole body: every argument and scratch buffer in, the result (a value of the staged
  rows and the three operands) and every buffer back.
-/
module

public import proofs.«01_k».proof.Proof.K.Loops
public import proofs.«01_k».proof.Proof.K.Prolog
public import Idealize.ShloMosaic.Lib.ValueLayout
public import Idealize.ShloMosaic.Lib.Ring
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The result as a value -/

/-- Columns `[256 t, 256 (t + 1))` of the staged rows, padded to thirty-two rows. -/
def xCols (x : Vec F S24x4096 .bf16) (t : Fin 16) : FVec F S32x256 .bf16 :=
  padX fun y => x ((Rect.unit (s := S24x4096) ![0, 256 * t.val] S24x256.size (inbX t)).emb y)

/-- They, their columns permuted by the product with the one-hot matrix. -/
def xPerm (x : Vec F S24x4096 .bf16) (t : Fin 16) : FVec F S32x256 .bf16 :=
  truncf .bf16 (Mxu.passOf false (perm (F := F), xCols x t)) bitsLt_bf16_f32

/-- The left-hand tiles. -/
def xAll (x : Vec F S24x4096 .bf16) : Vec F S16x32x256 .bf16 := fun y => xPerm x (y 0) (ix2 (n0 := 32) (n1 := 256) (y 1) (y 2))

/-- The result of the staged rows `x` and the operands. -/
def res (x : Vec F S24x4096 .bf16) (f1 : Vec F S1024x22016 .i8) (f2 f3 : Vec F S256x22016 .bf16) : FVec F S24x22016 .bf16 :=
  outArr (finW f1) (finS f2) (finS f3) (xAll x)

theorem xTile_xAll (x : Vec F S24x4096 .bf16) (t : Fin 16) : xTile (xAll x) t = xPerm x t := by
  funext y
  obtain ⟨r, l, rfl⟩ : ∃ (r : Fin 32) (l : Fin 256), y = ix2 r l := ⟨y 0, y 1, (ix2_eta y).symm⟩
  have e : (Shape.reshapeEquiv (by decide : S32x256.numel = S1x32x256.numel) (ix2 r l) : S1x32x256.Idx) = ix3 (⟨0, Nat.one_pos⟩ : Fin 1) r l :=
    ValueIdx.reshapeEquiv_ix2_1ab _ r l
  show xAll x ((Rect.unit (s := S16x32x256) ![t.val, 0, 0] S1x32x256.size (inbXp t)).emb (Shape.reshapeEquiv (by decide : S32x256.numel = S1x32x256.numel) (ix2 r l))) = _
  rw [e]
  unfold xAll
  have h0 : (((Rect.unit (s := S16x32x256) ![t.val, 0, 0] S1x32x256.size (inbXp t)).emb (ix3 (⟨0, Nat.one_pos⟩ : Fin 1) r l)) 0 : Fin 16) = t :=
    Fin.ext (show t.val + 1 * 0 = t.val by omega)
  have h12 : ix2 (n0 := 32) (n1 := 256) (((Rect.unit (s := S16x32x256) ![t.val, 0, 0] S1x32x256.size (inbXp t)).emb (ix3 (⟨0, Nat.one_pos⟩ : Fin 1) r l)) 1)
      (((Rect.unit (s := S16x32x256) ![t.val, 0, 0] S1x32x256.size (inbXp t)).emb (ix3 (⟨0, Nat.one_pos⟩ : Fin 1) r l)) 2) = ix2 r l := by
    congr 1
    · exact Fin.ext (show 0 + 1 * r.val = r.val by omega)
    · exact Fin.ext (show 0 + 1 * l.val = l.val by omega)
  exact (congrArg (fun t => xPerm x t _) h0).trans (congrArg (xPerm x t) h12)

section Congr
variable (W : Vec F S172x1024x128 .i8) (S M : Vec F S172x256x128 .bf16)

theorem sums_congr {X X' : Vec F S16x32x256 .bf16} (h : ∀ t, xTile X t = xTile X' t) (k : Fin k0_t3_loop.trips) (u : Fin 2) (n : ℕ) :
    sums W S M X k u n = sums W S M X' k u n := by
  induction n with
  | zero => rfl
  | succ n ih => simp only [sums, ih, h]

/-- The result depends on the left-hand tiles alone. -/
theorem outArr_congr {X X' : Vec F S16x32x256 .bf16} (h : ∀ t, xTile X t = xTile X' t) : outArr W S M X = outArr W S M X' := by
  funext y; unfold outArr outVal total; rw [sums_congr W S M h, h]
end Congr

section Whole

variable (c : Dev nD) (arg0 : Memref sig .tc .vmem S24x4096 .bf16) (harg0 : arg0.IsWhole) (arg4 : Memref sig .tc .vmem S24x22016 .bf16) (harg4 : arg4.IsWhole)
  (f0 : Buf (Elt F) (arg0.view.loc (c : Thread nD τ)))
  (f1 : Vec F S1024x22016 .i8) (f2 f3 : Vec F S256x22016 .bf16)

theorem tiles_eq {X : Vec F S16x32x256 .bf16} (h : XTo c arg0 f0 X 16) (t : Fin 16) :
    xTile X t = xTile (xAll (arg0.view.read (Elt F) f0)) t := by
  rw [h t t.isLt, xTile_xAll, ← permVal_eq]; rfl

/-- The buffers of the scratch, each at some contents. -/
def anyScratch : sProp 𝕄 :=
  iprop((∃ f : Buf (Elt F) ((c : Thread nD τ).loc cc0_scratch0), pt c cc0_scratch0 f) ∗ (∃ f : Buf (Elt F) ((c : Thread nD τ).loc cc0_scratch1), pt c cc0_scratch1 f)
    ∗ (∃ f : Buf (Elt F) ((c : Thread nD τ).loc cc0_scratch2), pt c cc0_scratch2 f) ∗ (∃ f : Buf (Elt F) ((c : Thread nD τ).loc cc0_scratch3), pt c cc0_scratch3 f)
    ∗ (∃ f : Buf (Elt F) ((c : Thread nD τ).loc cc0_scratch4), pt c cc0_scratch4 f))

theorem wp_body (g : Buf (Elt F) (arg4.view.loc (c : Thread nD τ))) (Wt : Waits sig Unit) {Q : PUnit → sProp 𝕄} :
    iprop((arg0.view.loc (c : Thread nD τ) ↦{fullShare} f0) ∗ (arg4.view.loc (c : Thread nD τ) ↦{fullShare} g) ∗ anyScratch c
      ∗ bigSep Finset.univ (fun k : Fin 43 => semVal ((c : Thread nD τ), cellOf k) 0)
      ∗ pt c main_arg1 f1 ∗ pt c main_arg2 f2 ∗ pt c main_arg3 f3 ∗ owes (c : Thread nD τ) 0 Wt)
    ⊢ iprop((∀ g' W', ⌜arg4.view.read (Elt F) g' = res (arg0.view.read (Elt F) f0) f1 f2 f3⌝ -∗
          (arg0.view.loc (c : Thread nD τ) ↦{fullShare} f0) -∗ (arg4.view.loc (c : Thread nD τ) ↦{fullShare} g') -∗ anyScratch c
          -∗ bigSep Finset.univ (fun k : Fin 43 => semVal ((c : Thread nD τ), cellOf k) 0)
          -∗ pt c main_arg1 f1 -∗ pt c main_arg2 f2 -∗ pt c main_arg3 f3 -∗ owes (c : Thread nD τ) 0 W' -∗ Q ⟨⟩)
      -∗ wpB c (cc0_w2_linear (F := F) arg0 harg0 gW (Memref.isWhole_whole _) gS (Memref.isWhole_whole _) gM (Memref.isWhole_whole _) arg4 harg4 mW (Memref.isWhole_whole _) mS (Memref.isWhole_whole _) mM (Memref.isWhole_whole _) mX (Memref.isWhole_whole _) mR (Memref.isWhole_whole _) cc0_scratch5) Q) := by
  rw [body_eq]
  unfold bodyProg
  unfold anyScratch
  iintro ⟨H0, H4, ⟨⟨%g0, HS0⟩, ⟨%g1, HS1⟩, ⟨%g2, HS2⟩, ⟨%X0, HS3⟩, HR⟩, Hv, H1, H2, H3, HO⟩ Hk
  iapply (wp_startLoop c f1 f2 f3 g0 g1 g2) $$ [Hv H1 HS0 H2 HS1 H3 HS2]
  · iapply (split_all c f1 f2 f3 g0 g1 g2)
    isplitl [Hv]; · iexact Hv
    isplitl [H1]; · iexact H1
    isplitl [HS0]; · iexact HS0
    isplitl [H2]; · iexact H2
    isplitl [HS1]; · iexact HS1
    isplitl [H3]; · iexact H3
    iexact HS2
  iintro HB
  iapply (wp_prolog c arg0 f0 X0) $$ [H0 HS3]
  · isplitl [H0]; · iexact H0
    iexact HS3
  iintro %s4 %X %hs4 %hX H0 HS3
  iapply (wp_waitLoop c f1 f2 f3 Wt) $$ [HB HO]
  · isplitl [HB]; · iexact HB
    iexact HO
  iintro %W' HP HO
  ihave HJ := (join_all c f1 f2 f3) $$ HP
  icases HJ with ⟨Hv, ⟨HS0, H1⟩, ⟨HS1, H2⟩, HS2, H3⟩
  iapply (wp_chunks c (finW f1) (finS f2) (finS f3) X arg4 harg4 s4 hs4 g) $$ [HS0 HS1 HS2 HS3 HR H4]
  · isplitr [H4]
    · unfold Scr
      isplitl [HS0]; · iexact HS0
      isplitl [HS1]; · iexact HS1
      isplitl [HS2]; · iexact HS2
      isplitl [HS3]; · iexact HS3
      iexact HR
    iexact H4
  iintro %s5 %g' %hs5 %hg HScr H4
  rw [← bind_pure s5.exit]
  iapply (Mxu.wp_exit (Sums.drained hs5))
  iapply (wpB_pure c)
  unfold Scr
  icases HScr with ⟨HS0, HS1, HS2, HS3, HR⟩
  iapply Hk $$ %g' %W' %(hg.trans (outArr_congr _ _ _ (tiles_eq c arg0 f0 hX))) H0 H4 [HS0 HS1 HS2 HS3 HR] Hv H1 H2 H3 HO
  isplitl [HS0]; · iexists _; iexact HS0
  isplitl [HS1]; · iexists _; iexact HS1
  isplitl [HS2]; · iexists _; iexact HS2
  isplitl [HS3]; · iexists _; iexact HS3
  iexact HR

end Whole

end Cert.KernelIdeal.Hand

end
-- ==== Proof.K.Run.lean ====
/-
  Hand-written, untrusted. The run of the whole program around its one region: it ends with every argument as it
  was, every semaphore at zero, and the result holding the body's value.
-/
module

public import proofs.«01_k».proof.Proof.K.Body
public import proofs.«01_k».proof.Proof.Gen.KernelIdeal.Frame
public import Idealize.ShloMosaic.Lib.ValueLayout
public import Idealize.ShloMosaic.Lib.Ring
public import Idealize.ShloMosaic.Lib.WritesUnit
public import Idealize.ShloMosaic.Lib.Pointwise.Index
public import proofs.«01_k».proof.Proof.Gen.KernelIdeal.Points
public import Idealize.ShloMosaic.Lib.Pipeline.FrameBody
public import Idealize.ShloMosaic.Lib.Pipeline.Value
public import Idealize.ShloMosaic.Lib.MixedBatch
public import Idealize.ShloMosaic.Lib.Mxu.Lemmas
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The program around the region, at this algebra -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the body's own transfers read. -/
def H0 : Finset (Ref sig .tc) := {main_arg1, main_arg2, main_arg3}
theorem H0_sub : H0 ⊆ Pipeline.restRefs sig spec0 := by decide

/-- The reshape after the region touches no buffer of the transfers. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ spec0 H0 op ((List.forall_iff_forall_mem.mp hostOps1_sub) op hop) (fun k => k.elim0) fun b hb => ?_
  simp only [hostOps1, List.mem_cons, List.mem_nil_iff, or_false] at hop
  rcases hop with rfl
  rw [StableHlo.reshape_bufs, Finset.mem_insert, Finset.mem_singleton, not_or]
  simp only [H0, Finset.mem_insert, Finset.mem_singleton] at hb
  rcases hb with rfl | rfl | rfl <;> exact ⟨StableHlo.devRef_ne_of_ne (by decide), StableHlo.devRef_ne_of_ne (by decide)⟩

theorem ownSemFacts0 : Pipeline.OwnSemFacts spec0 cellOf := by decide +kernel

theorem hbmPts0_eq (c : Dev nD) :
    (bigSep H0 (fun b => ((c : Thread nD τ).loc b) ↦{fullShare} V m c b) : sProp 𝕄)
      = iprop(pt c main_arg1 (V m c main_arg1) ∗ pt c main_arg2 (V m c main_arg2) ∗ pt c main_arg3 (V m c main_arg3)) := by
  rw [BI.bigSep_eq_bigSepL_of_eq [main_arg1, main_arg2, main_arg3] (by decide) (by decide)]; rfl

/-- What the body holds at every point beside its windows. -/
theorem Phi_eq (c : Dev nD) :
    (Pipeline.ΦD cellOf spec0 H0 (V m) c : sProp 𝕄)
      = iprop(anyScratch c ∗ (∃ r, prngReg c r) ∗ bigSep Finset.univ (fun k : Fin 43 => semVal ((c : Thread nD τ), cellOf k) 0)
          ∗ pt c main_arg1 (V m c main_arg1) ∗ pt c main_arg2 (V m c main_arg2) ∗ pt c main_arg3 (V m c main_arg3)) := by
  rw [Pipeline.ΦD_eq, scopedRest0_eq, hbmPts0_eq]; rfl

/-! ## The body at its point -/

/-- What the region's result holds. -/
def out0 (c : Dev nD) (t : Fin cfg0.N) : Vec F S24x22016 .bf16 :=
  res (iblk m c 0 t) (V m c main_arg1) (V m c main_arg2) (V m c main_arg3)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => out0 m c t
  Φ _ := Pipeline.ΦD cellOf spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = out0 m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A whole buffer owned at a value: its points-to at contents reading as the value. -/
theorem owns_of_whole (c : Thread nD τ) {sp : Space} {sh : Shape} {e : EltTy} (M : Memref sig c.2.kind sp sh e) (h : M.IsWhole) (d : Vec F sh e) :
    (owns c M fullShare d : sProp 𝕄) = iprop(∃ f, ⌜M.view.read (Elt F) f = d⌝ ∗ (M.view.loc c ↦{fullShare} f)) := by
  unfold owns; rw [h.set_eq_univ]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  rw [show (dats m 0 c).Φ t.castSucc = Pipeline.ΦD cellOf spec0 H0 (V m) c from rfl, Phi_eq]
  unfold Dat.owesAt Pipeline.owesWithin
  rw [show (dats m 0 c).owed t.castSucc = 0 from rfl, show (dats m 0 c).owed t.succ = 0 from rfl]
  simp only [before0_0]
  simp only [owns_of_whole (c : Thread nD τ) (st0_0 t) (hstage0_0 0), owns_of_whole (c : Thread nD τ) (st0_1 t) (hstage0_1 0)]
  iintro ⟨⟨HS, Hg, Hv, H1, H2, H3⟩, ⟨%W, -, HW⟩, ⟨%d0, %f0, %hf0, H0⟩, ⟨%d4, %f4, -, H4⟩⟩
  iapply (wp_body c (st0_0 t) (hstage0_0 0) (st0_1 t) (hstage0_1 0) f0 (V m c main_arg1) (V m c main_arg2) (V m c main_arg3) f4 W) $$ [HS Hv H1 H2 H3 HW H0 H4]
  · isplitl [H0]; · iexact H0
    isplitl [H4]; · iexact H4
    isplitl [HS]; · iexact HS
    isplitl [Hv]; · iexact Hv
    isplitl [H1]; · iexact H1
    isplitl [H2]; · iexact H2
    isplitl [H3]; · iexact H3
    iexact HW
  iintro %g' %W' %hg H0 H4 HS Hv H1 H2 H3 HW
  isplitl [HS Hg Hv H1 H2 H3]
  · isplitl [HS]; · iexact HS
    isplitl [Hg]; · iexact Hg
    isplitl [Hv]; · iexact Hv
    isplitl [H1]; · iexact H1
    isplitl [H2]; · iexact H2
    iexact H3
  isplitl [HW]
  · iexists W'; isplitr; · ipureintro; exact fun _ _ => Or.inl trivial
    iexact HW
  isplitl [H0]
  · iexists f0; isplitr; · ipureintro; exact hf0
    iexact H0
  iexists g'; isplitr
  swap; · iexact H4
  ipureintro; rw [hg, hf0]; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 cellOf defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmainD m Variants.none) (hA := A_eq m) (hin := fun _ => .rfl) (hout := fun _ => .rfl)

/-- A buffer that is no window's array and no result ends as the region found it. -/
theorem tail_keeps (c : Dev nD) (b : Ref sig .tc) (hb : b ≠ main_v2) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b hw]

variable (c : Dev nD)

theorem read_x (f : Buf (Elt F) ((c : Thread nD τ).loc main_v0)) : (win0_0.blk t0_0).view.read (Elt F) f = f :=
  Memref.read_access_unit_zero (Elt F) main_v0
    (show (fun a => (win0_0.index t0_0) a * main_v0.ty.shape.size a) = fun _ => 0 from
      funext fun a => by fin_cases a <;> decide) (fun a => by fin_cases a <;> decide) f
theorem read_out (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

theorem V_main_v0 : V m c main_v0 = shapeCast S24x4096 (m ((c : Thread nD τ).loc main_arg0)) shapeCasts_S24x1x4096_S24x4096 := by
  show (StableHlo.after (List.flatten [hostOps0]) (fun b => m (c, b))) (Proc.devRef .tc main_v0) = _
  simp only [hostOps0, List.flatten_cons, List.flatten_nil, List.append_nil, StableHlo.after_cons, StableHlo.after_nil, StableHlo.reshape_result']
  rfl

/-- The block of the rows is the first argument, reshaped. -/
theorem iblk_0 : iblk m c 0 t0_0 = shapeCast S24x4096 (m ((c : Thread nD τ).loc main_arg0)) shapeCasts_S24x1x4096_S24x4096 := by
  show (win0_0.blk t0_0).view.read (Elt F) (V m c main_v0) = _
  rw [V_main_v0]; exact read_x c _

/-- The region's result, as a function of the launched arguments. -/
def outMid : Vec F S24x22016 .bf16 :=
  res (shapeCast S24x4096 (m ((c : Thread nD τ).loc main_arg0)) shapeCasts_S24x1x4096_S24x4096)
    (m ((c : Thread nD τ).loc main_arg1)) (m ((c : Thread nD τ).loc main_arg2)) (m ((c : Thread nD τ).loc main_arg3))

theorem out0_eq : out0 m c t0_0 = outMid m c := by
  unfold out0 outMid; rw [iblk_0, V_main_arg1, V_main_arg2, V_main_arg3]

theorem flushed_1 : (dats m 0 c).flushed 1 t0_0 = outMid m c := by
  show (cfg0.win 1).cut _ ((dats m 0 c).after 1 t0_0) = _
  rw [after0_1, out0_eq]
  exact funext fun _ => rfl

/-- The one block of the result is the whole array. -/
theorem arr1 : (dats m 0 c).arrAt 1 cfg0.N = outMid m c := by
  have hw : ((cfg0.win 1).blk t0_0).view.read (Elt F) ((dats m 0 c).arrAt 1 cfg0.N) = (dats m 0 c).flushed 1 t0_0 := by
    rw [show cfg0.N = t0_0.val + 1 from rfl, (dats m 0 c).arrAt_succ (1 : Fin 2) t0_0, flush0_1, if_pos rfl]
    exact View.read_write_univ _ _
  rw [flushed_1] at hw
  exact (read_out c _).symm.trans hw

/-- What the program returns: the region's result, reshaped. -/
def outFinal : Vec F S24x1x22016 .bf16 := shapeCast S24x1x22016 (outMid m c) shapeCasts_S24x22016_S24x1x22016

theorem tail_v2 : Pipeline.afterTail₀ cfgs (dats m) 0 (V0 m) [hostOps1] c main_v2 = outFinal m c := by
  unfold Pipeline.afterTail₀
  simp only [hostOps1, List.flatten_cons, List.flatten_nil, List.append_nil, StableHlo.after_cons, StableHlo.after_nil, StableHlo.reshape_result']
  have h : Pipeline.withArrays spec0 c (V0 m c) (fun w => (dats m 0 c).arrAt w cfg0.N) (Proc.devRef .tc (Pipeline.arrRef spec0 1)) = outMid m c :=
    (Pipeline.withArrays_arr spec0 launch0.win.arr_inj c (V0 m c) (fun w => (dats m 0 c).arrAt w cfg0.N) 1).trans (arr1 m c)
  exact congrArg (fun v : Vec F S24x22016 .bf16 => shapeCast S24x1x22016 v shapeCasts_S24x22016_S24x1x22016) h

/-- The run: the result's value, the arguments as launched, every semaphore at zero. -/
theorem run_value : θ_run defs (onTc (τ := τ) (main (F := F))) ⟨m, fun _ => 0, ρ⟩ (fun r => (∀ c : Dev nD,
      r.2.mem ((c.tc : Thread nD τ).loc main_v2) = outFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_v2 (Pipeline.mem_restRefs_of main_v2 (by decide) (by decide))).trans (tail_v2 m c),
      ((h.1 c).2 main_arg0 (Pipeline.mem_restRefs_of main_arg0 (by decide) (by decide))).trans ((tail_keeps m c main_arg0 (by decide) (by decide)).trans (V_main_arg0 m c)),
      ((h.1 c).2 main_arg1 (Pipeline.mem_restRefs_of main_arg1 (by decide) (by decide))).trans ((tail_keeps m c main_arg1 (by decide) (by decide)).trans (V_main_arg1 m c)),
      ((h.1 c).2 main_arg2 (Pipeline.mem_restRefs_of main_arg2 (by decide) (by decide))).trans ((tail_keeps m c main_arg2 (by decide) (by decide)).trans (V_main_arg2 m c)),
      ((h.1 c).2 main_arg3 (Pipeline.mem_restRefs_of main_arg3 (by decide) (by decide))).trans ((tail_keeps m c main_arg3 (by decide) (by decide)).trans (V_main_arg3 m c))⟩, h.2⟩) (run_main m ρ)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_value m ρ)

end Cert.KernelIdeal.Hand

end
-- ==== Proof.K.Code.lean ====
/-
  Hand-written, untrusted. The weights of a plane's K-tile, element by element: which byte of the packed rows, which two
  bits of it, which row of scales and of minimums each weight of `dequant` is made of.
-/
module

public import proofs.«01_k».proof.Proof.K.Struct
public import Idealize.ShloMosaic.Lib.BitcastFour
public import Idealize.ShloMosaic.Lib.Pointwise

@[expose] public section

noncomputable section

namespace Cert.KernelIdeal.Hand

open Cert.KernelIdeal Cert.KernelIdeal.Gen
open Idealize.ShloMosaic

variable {F : FTy → Type} [FloatOps F]

/-- Words read at eight bits: row `R` is byte `R % 4` of the word in row `R / 4`. -/
theorem toBytes_bit (v : IVec S8x128 32) (R : Fin 32) (l : Fin 128) (q : ℕ) (hq : q < 8) :
    (toBytes v (ix2 R l)).getLsbD q = (v (ix2 (n0 := 8) ⟨R.val / 4, by omega⟩ l)).getLsbD (8 * (R.val % 4) + q) := by
  unfold toBytes
  rw [bitcast_getLsbD v _ _ q hq (by decide)]
  have e : Shape.row (s := S32x128) (ix2 R l) = R.val := rfl
  have hd : (R.val * 8 + q) / 32 = R.val / 4 := by omega
  have hm : (R.val * 8 + q) % 32 = 8 * (R.val % 4) + q := by omega
  simp only [e, hd, hm]
  congr 2
  funext a
  match a with
  | ⟨0, _⟩ => exact Fin.ext ((Shape.Bitcasts.srcIdx_row _ _ _ _ ⟨0, Nat.zero_lt_two⟩ rfl).trans hd)
  | ⟨1, _⟩ => exact Fin.ext (Shape.Bitcasts.srcIdx_other _ _ _ _ ⟨1, Nat.one_lt_two⟩ (by show ¬ 1 + 2 = 2; omega))

/-- The words of sixty-four packed rows: bit `q` of the word in row `p` is bit `q % 8` of row `4 p + q / 8`. -/
theorem words_bit {R r : ℕ} (x : (⟨2, ![R, 128]⟩ : Shape).Idx → BitVec 8) (h : (⟨2, ![R, 128]⟩ : Shape).Bitcasts 8 ⟨2, ![r, 128]⟩ 32)
    (a : Fin r) (l : Fin 128) (q : ℕ) (hq : q < 32) (p : Fin R) (hp : p.val = 4 * a.val + q / 8) :
    (bitcast ⟨2, ![r, 128]⟩ 32 x h (ix2 a l)).getLsbD q = (x (ix2 p l)).getLsbD (q % 8) := by
  rw [ix2_eq_valueIdx, ix2_eq_valueIdx]
  exact bitcast_8_32_getLsbD_ix2 x h a l q hq p hp

theorem even_bit (w : Vec F S64x128 .i8) (r : Fin 8) (l : Fin 128) (q : ℕ) (hq : q < 32) :
    (evenWords (F := F) w (ix2 r l)).getLsbD q = (w (ix2 (n0 := 64) ⟨8 * r.val + q / 8, by omega⟩ l)).getLsbD (q % 8) := by
  have e : evenWords (F := F) w (ix2 r l)
      = bitcast S16x128 32 w bitcasts_S64x128_w8_S16x128_w32 (ix2 (n0 := 16) ⟨r.val * 2, by omega⟩ l) := by
    pointwise [evenWords, wordRows]
  rw [e]
  exact words_bit w _ _ l q hq _ (by show _ = 4 * (r.val * 2) + _; show 8 * r.val + q / 8 = _; omega)

theorem odd_bit (w : Vec F S64x128 .i8) (r : Fin 8) (l : Fin 128) (q : ℕ) (hq : q < 32) :
    (oddWords (F := F) w (ix2 r l)).getLsbD q = (w (ix2 (n0 := 64) ⟨8 * r.val + 4 + q / 8, by omega⟩ l)).getLsbD (q % 8) := by
  have e : oddWords (F := F) w (ix2 r l)
      = bitcast S16x128 32 w bitcasts_S64x128_w8_S16x128_w32 (ix2 (n0 := 16) ⟨r.val * 2 + 1, by omega⟩ l) := by
    pointwise [oddWords, wordRows]
  rw [e]
  exact words_bit w _ _ l q hq _ (by show 8 * r.val + 4 + q / 8 = 4 * (r.val * 2 + 1) + _; omega)

theorem shift_bit (v : IVec S8x128 32) (n : ℕ) (hn : n < 32) (j : S8x128.Idx) (q : ℕ) :
    (shiftWords v (BitVec.ofNat 32 n) j).getLsbD q = (v j).getLsbD (n + q) := by
  show (IntOp.shrui .vector (v j) (BitVec.ofNat 32 n)).getLsbD q = _
  have e : (BitVec.ofNat 32 n).toNat = n := by rw [BitVec.toNat_ofNat]; exact Nat.mod_eq_of_lt (by omega)
  rw [IntOp.shrui, if_pos (by omega), BitVec.ushiftRight_eq', e, BitVec.getLsbD_ushiftRight]

theorem mask15 (q : ℕ) (hq : q < 8) : (15#8).getLsbD q = decide (q < 4) := by interval_cases q <;> rfl

/-- The packed nibbles: the low four bits of each byte are the first vector's, the high four the second's low four. -/
theorem nibbles_bit (e o : IVec S8x128 32) (r : Fin 8) (l : Fin 128) (q : ℕ) (hq : q < 32) :
    (nibbles e o (ix2 r l)).getLsbD q = if q % 8 < 4 then (e (ix2 r l)).getLsbD q else (o (ix2 r l)).getLsbD (q - 4) := by
  unfold nibbles
  rw [words_bit _ _ r l q hq ⟨4 * r.val + q / 8, by omega⟩ rfl]
  show (IntOp.ori (IntOp.andi (toBytes e _) 15#8) (IntOp.shli .vector (toBytes o _) 4#8)).getLsbD (q % 8) = _
  have h8 : q % 8 < 8 := Nat.mod_lt _ (by decide)
  have hr : (⟨(4 * r.val + q / 8) / 4, by omega⟩ : Fin 8) = r := Fin.ext (by show (4 * r.val + q / 8) / 4 = _; omega)
  rw [IntOp.ori, IntOp.andi, IntOp.shli, if_pos (by decide), BitVec.getLsbD_or, BitVec.getLsbD_and, mask15 _ h8,
    toBytes_bit e _ l _ h8, BitVec.shiftLeft_eq', BitVec.getLsbD_shiftLeft]
  have m : (4 * r.val + q / 8) % 4 = q / 8 := by omega
  have e4 : (4#8 : BitVec 8).toNat = 4 := rfl
  simp only [hr, m, e4, h8]
  by_cases h4 : q % 8 < 4
  · have x : 8 * (q / 8) + q % 8 = q := by omega
    simp [h4, x]
  · rw [toBytes_bit o _ l _ (by omega)]
    have x : 8 * (q / 8) + (q % 8 - 4) = q - 4 := by omega
    simp [h4, hr, m, x]

/-- The two bits of byte `b` that a weight of group `u` is made of. -/
def code (b : BitVec 8) (u : ℕ) : BitVec 8 := (b >>> (2 * u)) &&& 3#8

theorem mask51 (b q : ℕ) (hb : b < 4) (hq : q < 8) : (858993459#32).getLsbD (8 * b + q) = decide (q % 4 < 2) := by
  interval_cases b <;> interval_cases q <;> rfl
theorem mask3 (q : ℕ) (hq : q < 8) : (3#8).getLsbD q = decide (q < 2) := by interval_cases q <;> rfl

/-- The codes of a row of words: at row `8 r + 2 b + h`, bits `8 b + 4 h` and `8 b + 4 h + 1` of word `r`. -/
theorem codes_apply (f : IVec S8x128 32) (R : Fin 64) (l : Fin 128) (x : BitVec 8)
    (hx : ∀ q, q < 2 → (f (ix2 (n0 := 8) ⟨R.val / 8, by omega⟩ l)).getLsbD (8 * (R.val % 8 / 2) + 4 * (R.val % 2) + q) = x.getLsbD q) :
    codes (F := F) f (ix2 R l) = FloatOps.sitofp .bf16 (x &&& 3#8) := by
  pointwise [codes]
  have tb : ∀ q, q < 8 → (toBytes (andi f (broadcast S8x128 858993459#32)) (ix2 (n0 := 32) ⟨R.val / 2, by omega⟩ l)).getLsbD q
      = ((f (ix2 (n0 := 8) ⟨R.val / 8, by omega⟩ l)).getLsbD (8 * (R.val % 8 / 2) + q) && decide (q % 4 < 2)) := by
    intro q hq
    rw [toBytes_bit _ _ l q hq]
    show (IntOp.andi (f _) 858993459#32).getLsbD _ = _
    have hr : (⟨R.val / 2 / 4, by omega⟩ : Fin 8) = ⟨R.val / 8, by omega⟩ := Fin.ext (by show R.val / 2 / 4 = R.val / 8; omega)
    have hm : R.val / 2 % 4 = R.val % 8 / 2 := by omega
    rw [IntOp.andi, BitVec.getLsbD_and]
    simp only [hr, hm]
    rw [mask51 _ q (by omega) hq]
  refine congrArg _ (BitVec.eq_of_getLsbD_eq fun q hq => ?_)
  rw [BitVec.getLsbD_and, mask3 q hq]
  by_cases h : R.val % 2 < 1
  · rw [dif_pos h, IntOp.andi, BitVec.getLsbD_and, mask15 q hq, tb q hq]
    by_cases h2 : q < 2
    · have e := hx q h2
      have e0 : R.val % 2 = 0 := by omega
      rw [e0, Nat.mul_zero, Nat.add_zero] at e
      rw [e]
      simp [h2, show q < 4 by omega, show q % 4 < 2 by omega]
    · by_cases h4 : q < 4
      · simp [h2, show ¬ q % 4 < 2 by omega]
      · simp [h2, h4]
  · rw [dif_neg h, IntOp.andi, BitVec.getLsbD_and, mask15 q hq, IntOp.shrsi, if_pos (by decide)]
    have e4 : (4#8 : BitVec 8).toNat = 4 := rfl
    rw [BitVec.sshiftRight', e4, BitVec.getLsbD_sshiftRight]
    by_cases h4 : q < 4
    · rw [if_pos (by omega), tb _ (by omega)]
      by_cases h2 : q < 2
      · have e := hx q h2
        have e0 : R.val % 2 = 1 := by omega
        rw [e0, Nat.mul_one] at e
        rw [← Nat.add_assoc, e]
        simp [h2, h4, show ¬ 8 ≤ q by omega, show q % 4 ≤ 1 by omega]
      · simp [h2, h4, show ¬ q % 4 ≤ 1 by omega]
    · simp [h4, show ¬ q < 2 by omega]

/-- The packed row, among sixty-four, of the byte that row `R` of each group of weights is made of. -/
def srcRow (R : Fin 64) : Fin 64 := ⟨8 * (R.val / 8) + 4 * (R.val % 2) + R.val % 8 / 2, by omega⟩

/-- Bit `q` of the words that group `u`'s codes are cut from. -/
theorem group_bit (w : Vec F S64x128 .i8) (R : Fin 64) (l : Fin 128) (u q : ℕ) (hu : u < 4) (hq : q < 2) (n4 n2 : ℕ)
    (h4 : n4 = 4 * (u / 2)) (h2 : n2 = 2 * (u % 2)) :
    (nibbles (shiftWords (evenWords (F := F) w) (BitVec.ofNat 32 n4)) (shiftWords (oddWords (F := F) w) (BitVec.ofNat 32 n4))
      (ix2 (n0 := 8) ⟨R.val / 8, by omega⟩ l)).getLsbD (n2 + (8 * (R.val % 8 / 2) + 4 * (R.val % 2) + q))
      = (w (ix2 (srcRow R) l) >>> (2 * u)).getLsbD q := by
  rw [nibbles_bit _ _ _ _ _ (by omega), BitVec.getLsbD_ushiftRight, shift_bit _ _ (by omega), shift_bit _ _ (by omega)]
  by_cases h : R.val % 2 < 1
  · rw [if_pos (by omega), even_bit _ _ _ _ (by omega)]
    congr 1
    · exact congrArg (fun r => w (ix2 r l)) (Fin.ext (by simp only [srcRow]; omega))
    · omega
  · rw [if_neg (by omega), odd_bit _ _ _ _ (by omega)]
    congr 1
    · exact congrArg (fun r => w (ix2 r l)) (Fin.ext (by simp only [srcRow]; omega))
    · omega

theorem shiftWords_zero (v : IVec S8x128 32) : shiftWords v (BitVec.ofNat 32 0) = v := by
  funext j
  exact BitVec.eq_of_getLsbD_eq fun q hq => by rw [shift_bit v 0 (by decide), Nat.zero_add]

/-- One weight: two bits of a packed byte, times the scale, plus the minimum. -/
def weight (b : BitVec 8) (u : ℕ) (s m : F .bf16) : F .bf16 :=
  FloatOps.addf (FloatOps.mulf (FloatOps.sitofp .bf16 (code b u)) s) m

theorem group_apply (w : Vec F S64x128 .i8) (sc mn : FVec F S64x128 .bf16) (R : Fin 64) (l : Fin 128) (u : ℕ) (hu : u < 4) (n4 n2 : ℕ)
    (h4 : n4 = 4 * (u / 2)) (h2 : n2 = 2 * (u % 2)) :
    affine (shiftWords (nibbles (shiftWords (evenWords (F := F) w) (BitVec.ofNat 32 n4)) (shiftWords (oddWords (F := F) w) (BitVec.ofNat 32 n4)))
      (BitVec.ofNat 32 n2)) sc mn (ix2 R l) = weight (w (ix2 (srcRow R) l)) u (sc (ix2 R l)) (mn (ix2 R l)) := by
  show FloatOps.addf (FloatOps.mulf (codes (F := F) _ (ix2 R l)) _) _ = _
  rw [codes_apply _ R l (w (ix2 (srcRow R) l) >>> (2 * u)) fun q hq => ?_]
  · rfl
  · rw [shift_bit _ _ (by omega)]
    exact group_bit w R l u q hu hq n4 n2 h4 h2

/-- The weights of a plane's K-tile. -/
theorem dequant_apply (w : Vec F S64x128 .i8) (sc mn : FVec F S64x128 .bf16) (u : Fin 4) (R : Fin 64) (l : Fin 128) :
    dequant w sc mn (ix2 (n0 := 256) ⟨64 * u.val + R.val, by omega⟩ l) = weight (w (ix2 (srcRow R) l)) u.val (sc (ix2 R l)) (mn (ix2 R l)) := by
  have g0 := group_apply w sc mn R l 0 (by decide) 0 0 rfl rfl
  have g1 := group_apply w sc mn R l 1 (by decide) 0 2 rfl rfl
  have g2 := group_apply w sc mn R l 2 (by decide) 4 0 rfl rfl
  have g3 := group_apply w sc mn R l 3 (by decide) 4 2 rfl rfl
  simp only [shiftWords_zero] at g0 g1 g2
  pointwise [dequant]
  fin_vals u with hk
  all_goals simp only [hk]
  all_goals have ix : ∀ (n : ℕ) (h : n < 64), n = R.val → (ix2 (n0 := 64) (n1 := 128) ⟨n, h⟩ l : S64x128.Idx) = ix2 R l :=
    fun n h e => congrArg (fun r => ix2 r l) (Fin.ext e)
  · rw [dif_pos (by omega), ix _ _ (by omega)]; exact g0
  · rw [dif_neg (by omega), dif_pos (by omega), ix _ _ (by omega)]; exact g1
  · rw [dif_neg (by omega), dif_neg (by omega), dif_pos (by omega), ix _ _ (by omega)]; exact g2
  · rw [dif_neg (by omega), dif_neg (by omega), dif_neg (by omega), ix _ _ (by omega)]; exact g3

/-- Sixteen rows repeated: row `R` of sixty-four is row `2 (R / 8) + R % 2`. -/
theorem repeatRows_apply (v : Vec F S16x128 .bf16) (R : Fin 64) (l : Fin 128) :
    repeatRows (F := F) v (ix2 R l) = v (ix2 (n0 := 16) ⟨2 * (R.val / 8) + R.val % 2, by omega⟩ l) := by
  pointwise [repeatRows]
  have e : (⟨R.val / 8 * 2 + R.val % 2, by omega⟩ : Fin 16) = ⟨2 * (R.val / 8) + R.val % 2, by omega⟩ := Fin.ext (by
    show R.val / 8 * 2 + R.val % 2 = 2 * (R.val / 8) + R.val % 2; omega)
  simp only [e, dite_eq_ite, ite_self]

end Cert.KernelIdeal.Hand
-- ==== Proof.K.Planes.lean ====
/-
  Hand-written, untrusted. The kernel's result at an element, in exact arithmetic: a sum over the sixteen K-tiles and the
  256 positions of each of a left-hand entry and a weight.
-/
module

public import proofs.«01_k».proof.Proof.K.Body
public import proofs.«01_k».proof.Proof.K.Code

@[expose] public section

noncomputable section

namespace Cert.KernelIdeal.Hand

open Cert.KernelIdeal Cert.KernelIdeal.Gen
open Idealize.ShloMosaic

section Any
variable {F : FTy → Type} [FloatOps F]

/-- A packed byte of a plane, from its place in the weight buffer. -/
theorem packedRows_apply (W : Vec F S172x1024x128 .i8) (k : Fin k0_t3_loop.trips) (t : Fin 16) (p : Fin 4) (R : Fin 64) (l : Fin 128)
    (n : Fin 172) (hn : n.val = 4 * k.val + p.val) (r : Fin 1024) (hr : r.val = 64 * t.val + R.val) :
    packedRows W k t p (ix2 R l) = W (ix3 n r l) := by
  have h0 : (Rect.unit (s := S1024x128) ![64 * t.val, 0] S64x128.size (inbW t)).emb (ix2 R l) = (ix2 r l : S1024x128.Idx) := by
    funext a
    match a with
    | ⟨0, _⟩ => exact Fin.ext (show 64 * t.val + 1 * R.val = r.val by omega)
    | ⟨1, _⟩ => exact Fin.ext (show 0 + 1 * l.val = l.val by omega)
  have e : (Shape.reshapeEquiv squeezes_S1x1024x128_S1024x128.numel_eq (ix2 r l) : S1x1024x128.Idx) = ix3 (⟨0, Nat.one_pos⟩ : Fin 1) r l :=
    ValueIdx.reshapeEquiv_ix2_1ab _ r l
  have ho := k0_off11_eq k p
  show W ((Rect.unit (s := S172x1024x128) (k0_off11 k (BitVec.ofNat 32 p.val)) S1x1024x128.size (k0_off11_inb k p)).emb
    (Shape.reshapeEquiv squeezes_S1x1024x128_S1024x128.numel_eq ((Rect.unit (s := S1024x128) ![64 * t.val, 0] S64x128.size (inbW t)).emb (ix2 R l)))) = _
  rw [h0, e]
  refine congrArg W (funext fun a => ?_)
  match a with
  | ⟨0, _⟩ => exact Fin.ext (show k0_off11 k (BitVec.ofNat 32 p.val) 0 + 1 * 0 = n.val by rw [ho]; show 4 * k.val + p.val + 1 * 0 = n.val; omega)
  | ⟨1, _⟩ => exact Fin.ext (show k0_off11 k (BitVec.ofNat 32 p.val) 1 + 1 * r.val = r.val by rw [ho]; show 0 + 1 * r.val = r.val; omega)
  | ⟨2, _⟩ => exact Fin.ext (show k0_off11 k (BitVec.ofNat 32 p.val) 2 + 1 * l.val = l.val by rw [ho]; show 0 + 1 * l.val = l.val; omega)

/-- A scale or a minimum of a plane, from its place in its buffer. -/
theorem groupRows_apply (B : Vec F S172x256x128 .bf16) (k : Fin k0_t3_loop.trips) (t : Fin 16) (p : Fin 4) (R : Fin 16) (l : Fin 128)
    (n : Fin 172) (hn : n.val = 4 * k.val + p.val) (r : Fin 256) (hr : r.val = 16 * t.val + R.val) :
    groupRows B k t p (ix2 R l) = B (ix3 n r l) := by
  have h0 : (Rect.unit (s := S256x128) ![16 * t.val, 0] S16x128.size (inbS t)).emb (ix2 R l) = (ix2 r l : S256x128.Idx) := by
    funext a
    match a with
    | ⟨0, _⟩ => exact Fin.ext (show 16 * t.val + 1 * R.val = r.val by omega)
    | ⟨1, _⟩ => exact Fin.ext (show 0 + 1 * l.val = l.val by omega)
  have e : (Shape.reshapeEquiv squeezes_S1x256x128_S256x128.numel_eq (ix2 r l) : S1x256x128.Idx) = ix3 (⟨0, Nat.one_pos⟩ : Fin 1) r l :=
    ValueIdx.reshapeEquiv_ix2_1ab _ r l
  have ho := k0_off12_eq k p
  show B ((Rect.unit (s := S172x256x128) (k0_off12 k (BitVec.ofNat 32 p.val)) S1x256x128.size (k0_off12_inb k p)).emb
    (Shape.reshapeEquiv squeezes_S1x256x128_S256x128.numel_eq ((Rect.unit (s := S256x128) ![16 * t.val, 0] S16x128.size (inbS t)).emb (ix2 R l)))) = _
  rw [h0, e]
  refine congrArg B (funext fun a => ?_)
  match a with
  | ⟨0, _⟩ => exact Fin.ext (show k0_off12 k (BitVec.ofNat 32 p.val) 0 + 1 * 0 = n.val by rw [ho]; show 4 * k.val + p.val + 1 * 0 = n.val; omega)
  | ⟨1, _⟩ => exact Fin.ext (show k0_off12 k (BitVec.ofNat 32 p.val) 1 + 1 * r.val = r.val by rw [ho]; show 0 + 1 * r.val = r.val; omega)
  | ⟨2, _⟩ => exact Fin.ext (show k0_off12 k (BitVec.ofNat 32 p.val) 2 + 1 * l.val = l.val by rw [ho]; show 0 + 1 * l.val = l.val; omega)

/-- The weight at packed row `b`, group `u` and column `n`, of the operands as they lie in HBM. -/
def weightAt (f1 : Vec F S1024x22016 .i8) (f2 f3 : Vec F S256x22016 .bf16) (n : Fin 22016) (b : Fin 1024) (u : ℕ) : F .bf16 :=
  weight (f1 (ix2 b n)) u (f2 (ix2 (n0 := 256) ⟨b.val / 4, by omega⟩ n)) (f3 (ix2 (n0 := 256) ⟨b.val / 4, by omega⟩ n))

/-- The packed row of tile `t` that position `R` of each group is made of. -/
def rowOf (t : Fin 16) (R : Fin 64) : Fin 1024 := ⟨64 * t.val + (srcRow R).val, by omega⟩

/-- A weight of a plane's K-tile. -/
theorem plane_apply (f1 : Vec F S1024x22016 .i8) (f2 f3 : Vec F S256x22016 .bf16) (k : Fin k0_t3_loop.trips) (t : Fin 16) (p : Fin 4)
    (u : Fin 4) (R : Fin 64) (l : Fin 128) (n : Fin 22016) (hn : n.val = 128 * (4 * k.val + p.val) + l.val) :
    plane (finW f1) (finS f2) (finS f3) k t p (ix2 (n0 := 256) ⟨64 * u.val + R.val, by omega⟩ l) = weightAt f1 f2 f3 n (rowOf t R) u.val := by
  have hP : 4 * k.val + p.val < 172 := by omega
  have hg : ∀ (B : Vec F S256x22016 .bf16), repeatRows (F := F) (groupRows (finS B) k t p) (ix2 R l)
      = B (ix2 (n0 := 256) ⟨(rowOf t R).val / 4, by omega⟩ n) := by
    intro B
    rw [repeatRows_apply, groupRows_apply (finS B) k t p _ l ⟨4 * k.val + p.val, hP⟩ rfl ⟨(rowOf t R).val / 4, by omega⟩
      (by simp only [rowOf, srcRow]; omega)]
    exact congrArg (fun x => B (ix2 _ x)) (Fin.ext hn.symm)
  unfold plane
  rw [dequant_apply, packedRows_apply (finW f1) k t p _ l ⟨4 * k.val + p.val, hP⟩ rfl (rowOf t R) rfl, hg, hg]
  exact congrArg (fun x => weight (f1 (ix2 _ x)) _ _ _) (Fin.ext hn.symm)

/-- A weight of a unit's K-tile. -/
theorem unitW_apply (f1 : Vec F S1024x22016 .i8) (f2 f3 : Vec F S256x22016 .bf16) (k : Fin k0_t3_loop.trips) (t : Fin 16) (h : Fin 2)
    (u : Fin 4) (R : Fin 64) (l : Fin 256) (n : Fin 22016) (hn : n.val = 512 * k.val + 256 * h.val + l.val) :
    unitW (finW f1) (finS f2) (finS f3) k t h (ix2 (n0 := 256) ⟨64 * u.val + R.val, by omega⟩ l) = weightAt f1 f2 f3 n (rowOf t R) u.val := by
  unfold unitW
  pointwise [wide]
  by_cases hl : l.val < 128
  · rw [dif_pos hl]
    exact plane_apply f1 f2 f3 k t _ u R ⟨l.val, hl⟩ n (by show n.val = 128 * (4 * k.val + 2 * h.val) + l.val; omega)
  · rw [dif_neg hl]
    exact plane_apply f1 f2 f3 k t _ u R ⟨l.val - 128, by omega⟩ n
      (by show n.val = 128 * (4 * k.val + (2 * h.val + 1)) + (l.val - 128); omega)

end Any

/-! ## Exact arithmetic -/

/-- A pass of the matrix unit is a sum of products. -/
theorem pass_apply (w : FVec Ideal S256x256 .bf16) (x : FVec Ideal S32x256 .bf16) (r : Fin 32) (l : Fin 256) :
    Mxu.passOf (F := Ideal) false (w, x) (ix2 r l) = ∑ k : Fin 256, x (ix2 r k) * w (ix2 k l) := by
  have e : Mxu.passOf (F := Ideal) false (w, x) (ix2 r l) = Ideal.matmul (DotDims.plain 32 256 256) x w (fun _ => 0) (ix2 r l) := by
    rw [Mxu.passOf, Mxu.Staged.pass_false, Ideal.mxuPass_def]
    exact (zero_add _).symm
  rw [e]
  pointwise

/-- The column of a tile that position `pos` of the permuted tile holds. -/
def srcCol (pos : Fin 256) : Fin 256 := ⟨32 * (pos.val % 64 / 8) + 16 * (pos.val % 2) + 4 * (pos.val % 8 / 2) + pos.val / 64, by omega⟩

theorem permIdx_apply (k pos : Fin 256) : permIdx (ix2 k pos) = BitVec.ofNat 32 (srcCol pos).val := by
  pointwise [permIdx]
  revert pos
  decide +kernel

theorem perm_apply (k pos : Fin 256) : perm (F := Ideal) (ix2 k pos) = if k = srcCol pos then 1 else 0 := by
  pointwise [perm]
  rw [permIdx_apply]
  have hc : IntOp.cmpi CmpIPredicate.eq (BitVec.ofNat 32 k.val) (BitVec.ofNat 32 (srcCol pos).val) = if k = srcCol pos then 1#1 else 0#1 := by
    have e : (BitVec.ofNat 32 k.val = BitVec.ofNat 32 (srcCol pos).val) ↔ k = srcCol pos := by
      constructor
      · intro h
        have h' := congrArg BitVec.toNat h
        rw [BitVec.toNat_ofNat, BitVec.toNat_ofNat, Nat.mod_eq_of_lt (by omega), Nat.mod_eq_of_lt (by omega)] at h'
        exact Fin.ext h'
      · intro h; rw [h]
    by_cases h : k = srcCol pos
    · rw [if_pos h, e.2 h]; simp [IntOp.cmpi]
    · rw [if_neg h]
      have hb : (BitVec.ofNat 32 k.val == BitVec.ofNat 32 (srcCol pos).val) = false := beq_eq_false_iff_ne.2 (mt e.1 h)
      show BitVec.ofBool (BitVec.ofNat 32 k.val == BitVec.ofNat 32 (srcCol pos).val) = 0#1
      rw [hb]; rfl
  rw [hc]
  by_cases h : k = srcCol pos
  · rw [if_pos h, if_pos h]; rfl
  · rw [if_neg h, if_neg h]; rfl

theorem xPerm_apply (x : Vec Ideal S24x4096 .bf16) (t : Fin 16) (r : Fin 24) (pos : Fin 256) :
    xPerm x t (ix2 (n0 := 32) ⟨r.val, by omega⟩ pos) = x (ix2 (n1 := 4096) r ⟨256 * t.val + (srcCol pos).val, by omega⟩) := by
  show Mxu.passOf (F := Ideal) false (perm, xCols x t) _ = _
  rw [pass_apply, Finset.sum_eq_single (srcCol pos)]
  · rw [perm_apply, if_pos rfl, mul_one]
    pointwise [xCols, padX]
    refine congrArg x (funext fun a => ?_)
    match a with
    | ⟨0, _⟩ => exact Fin.ext (show 0 + 1 * r.val = r.val by omega)
    | ⟨1, _⟩ => exact Fin.ext (show 256 * t.val + 1 * (srcCol pos).val = 256 * t.val + (srcCol pos).val by omega)
  · intro k _ hk
    rw [perm_apply, if_neg hk, mul_zero]
  · intro h; exact absurd (Finset.mem_univ _) h

/-- A sum over blocks of one length, block by block. -/
theorem sum_blocks {A : Type} [AddCommMonoid A] (m n : ℕ) (f : Fin (m * n) → A) (g : Fin m → Fin n → A)
    (h : ∀ i a b, i.val = n * a.val + b.val → f i = g a b) : ∑ i, f i = ∑ a, ∑ b, g a b := by
  rw [← finProdFinEquiv.sum_comp, Fintype.sum_prod_type]
  exact Finset.sum_congr rfl fun a _ => Finset.sum_congr rfl fun b _ => h _ a b (Nat.add_comm _ _)

section Sum
variable (W : Vec Ideal S172x1024x128 .i8) (S M : Vec Ideal S172x256x128 .bf16) (X : Vec Ideal S16x32x256 .bf16)

/-- The running sum, and a pass more. -/
theorem deposited_sums (k : Fin k0_t3_loop.trips) (h : Fin 2) (g : ℕ → EReal) (y : S32x256.Idx)
    (hg : ∀ t : Fin 16, (Mxu.passOf (F := Ideal) false (unitW W S M k t h, xTile X t)) y = g t.val) :
    ∀ (n : ℕ), n < 16 → ∀ p : FVec Ideal S32x256 .f32, deposited (sums W S M X k h n) p y = (∑ i ∈ Finset.range n, g i) + p y
  | 0, _, p => by rw [Finset.sum_range_zero, zero_add]; rfl
  | n + 1, hn, p => by
    rw [sums_succ W S M X k h ⟨n, by omega⟩, Finset.sum_range_succ, ← hg ⟨n, by omega⟩, ← deposited_sums k h g y hg n (by omega)]
    rfl

/-- A unit's total over the sixteen K-tiles. -/
theorem total_apply (k : Fin k0_t3_loop.trips) (h : Fin 2) (r : Fin 32) (l : Fin 256) :
    total W S M X k h (ix2 r l) = ∑ t : Fin 16, ∑ pos : Fin 256, xTile X t (ix2 r pos) * unitW W S M k t h (ix2 pos l) := by
  let g : ℕ → EReal := fun n => if hn : n < 16 then Mxu.passOf (F := Ideal) false (unitW W S M k ⟨n, hn⟩ h, xTile X ⟨n, hn⟩) (ix2 r l) else 0
  have hg : ∀ t : Fin 16, (Mxu.passOf (F := Ideal) false (unitW W S M k t h, xTile X t)) (ix2 r l) = g t.val := fun t => by
    simp only [g, dif_pos t.isLt]
  rw [total, deposited_sums W S M X k h g _ hg 15 (by decide), hg 15]
  refine (Finset.sum_range_succ g 15).symm.trans ((Finset.sum_range g).trans (Finset.sum_congr rfl fun t _ => ?_))
  rw [← hg, pass_apply]

end Sum

section Result
variable (x : Vec Ideal S24x4096 .bf16) (f1 : Vec Ideal S1024x22016 .i8) (f2 f3 : Vec Ideal S256x22016 .bf16)

/-- The product of packed row `b` and group `u`: a left-hand entry and a weight. -/
def term (r : Fin 24) (n : Fin 22016) (u : Fin 4) (b : Fin 1024) : EReal :=
  x (ix2 (n1 := 4096) r ⟨4 * b.val + u.val, by omega⟩) * weightAt (F := Ideal) f1 f2 f3 n b u.val

theorem srcRow_bijective : Function.Bijective srcRow := Finite.injective_iff_bijective.1 (by decide +kernel)

/-- The kernel's result at an element. -/
theorem res_apply (r : Fin 24) (n : Fin 22016) :
    res x f1 f2 f3 (ix2 r n) = ∑ u : Fin 4, ∑ b : Fin 1024, term x f1 f2 f3 r n u b := by
  have e : res x f1 f2 f3 (ix2 r n) = total (finW f1) (finS f2) (finS f3) (xAll x) (chunkOf n.val n.isLt) (unitOf n.val)
      (ix2 (n0 := 32) (n1 := 256) ⟨r.val, by omega⟩ ⟨n.val % 256, by omega⟩) := by
    show outVal (finW f1) (finS f2) (finS f3) (xAll x) (chunkOf n.val n.isLt) (unitOf n.val) (ix2 (n0 := 24) (n1 := 256) r ⟨n.val % 256, by omega⟩) = _
    pointwise [outVal]
  rw [e, total_apply]
  have ht : ∀ t : Fin 16, (∑ pos : Fin 256, xTile (xAll x) t (ix2 (n0 := 32) (n1 := 256) ⟨r.val, by omega⟩ pos)
      * unitW (finW f1) (finS f2) (finS f3) (chunkOf n.val n.isLt) t (unitOf n.val) (ix2 (n0 := 256) (n1 := 256) pos ⟨n.val % 256, by omega⟩))
      = ∑ u : Fin 4, ∑ R : Fin 64, term x f1 f2 f3 r n u (rowOf t R) := by
    intro t
    refine sum_blocks 4 64 _ _ fun pos u R hp => ?_
    have hpos : pos = (⟨64 * u.val + R.val, by omega⟩ : Fin 256) := Fin.ext hp
    rw [xTile_xAll, xPerm_apply, hpos, unitW_apply f1 f2 f3 _ t _ u R _ n
      (by show n.val = 512 * (n.val / 512) + 256 * (n.val % 512 / 256) + n.val % 256; omega)]
    unfold term
    refine congrArg (fun c => x (ix2 (n1 := 4096) r c) * _) (Fin.ext ?_)
    simp only [srcCol, rowOf, srcRow]
    omega
  rw [Finset.sum_congr rfl fun t _ => ht t, Finset.sum_comm]
  refine Finset.sum_congr rfl fun u _ => ?_
  refine (Finset.sum_congr rfl fun t _ => ?_).trans (sum_blocks 16 64 (fun b => term x f1 f2 f3 r n u b)
    (fun t R => term x f1 f2 f3 r n u ⟨64 * t.val + R.val, by omega⟩) fun b t R hb => congrArg _ (Fin.ext hb)).symm
  exact (Equiv.ofBijective srcRow srcRow_bijective).sum_comp fun R => term x f1 f2 f3 r n u ⟨64 * t.val + R.val, by omega⟩

end Result

end Cert.KernelIdeal.Hand
-- ==== Proof.K.Value.lean ====
/-
  Hand-written, untrusted. In exact arithmetic the reference's four products, one for each two-bit field, are the kernel's
  one product: both are the same terms summed, in another order.
-/
module

public import proofs.«01_k».proof.Proof.K.Planes
public import proofs.«01_k».proof.Proof.Gen.ReferenceIdeal

@[expose] public section

noncomputable section

namespace Cert.ReferenceIdeal.Hand

open Cert.ReferenceIdeal Cert.ReferenceIdeal.Gen
open Idealize.ShloMosaic

variable (a0 : FVec Ideal S24x1x4096 .bf16) (f1 : Vec Ideal S1024x22016 .i8) (f2 f3 : Vec Ideal S256x22016 .bf16)

/-- The reference's weights of the field that `sh` shifts down. -/
def refWeights (sh : BitVec 32) : FVec Ideal S1024x22016 .bf16 :=
  addf (mulf (sitofp .bf16 (andi (Host.shrsi (extui 32 f1 natLt_8_32) (broadcastInDim S1024x22016 ![] bcast_S_S1024x22016 (constantI S_ 32 sh))) (broadcastInDim S1024x22016 ![] bcast_S_S1024x22016 (constantI S_ 32 3#32)))) (shapeCast _ (broadcastInDim S256x4x22016 ![0, 2] bcast_S256x22016_S256x4x22016_0_2 f2) shapeCasts_S256x4x22016_S1024x22016)) (shapeCast _ (broadcastInDim S256x4x22016 ![0, 2] bcast_S256x22016_S256x4x22016_0_2 f3) shapeCasts_S256x4x22016_S1024x22016)

/-- The two bits as a number, shifted and masked at eight bits and at thirty-two. -/
theorem code_toInt (b : BitVec 8) (u : Fin 4) :
    (IntOp.andi (IntOp.shrsi .host (b.setWidth 32) (BitVec.ofNat 32 (2 * u.val))) 3#32).toInt = (Cert.KernelIdeal.Hand.code b u.val).toInt := by
  revert b u
  decide +kernel

theorem refWeights_apply (u : Fin 4) (b : Fin 1024) (n : Fin 22016) :
    refWeights f1 f2 f3 (BitVec.ofNat 32 (2 * u.val)) (ix2 b n) = Cert.KernelIdeal.Hand.weightAt (F := Ideal) f1 f2 f3 n b u.val := by
  pointwise [refWeights]
  refine congrArg (· + _) (congrArg (· * _) ?_)
  show (((IntOp.andi _ _).toInt : ℝ) : EReal) = (((Cert.KernelIdeal.Hand.code (f1 (ix2 b n)) u.val).toInt : ℝ) : EReal)
  rw [code_toInt]

/-- The reference's product of one field. -/
def refPart (o : ℕ) (h : S24x1x4096.SlicesBy ![0, 0, o] ![1, 1, 4] S24x1x1024) (sh : BitVec 32) : FVec Ideal S24x1x22016 .f32 :=
  Host.dotGeneral (φ₁ := .bf16) dot_S24x1x1024_S1024x22016_S24x1x22016_2_0_01_1_n_n none (Host.slice S24x1x1024 ![0, 0, o] ![1, 1, 4] a0 h) (refWeights f1 f2 f3 sh)

theorem refPart_apply (u : Fin 4) (h : S24x1x4096.SlicesBy ![0, 0, u.val] ![1, 1, 4] S24x1x1024) (r : Fin 24) (n : Fin 22016) :
    refPart a0 f1 f2 f3 u.val h (BitVec.ofNat 32 (2 * u.val)) (ix3 (n0 := 24) (n1 := 1) r 0 n)
      = ∑ b : Fin 1024, Cert.KernelIdeal.Hand.term (fun y => a0 (ix3 (n0 := 24) (n1 := 1) (y 0) 0 (y 1))) f1 f2 f3 r n u b := by
  pointwise [refPart]
  refine Finset.sum_congr rfl fun b _ => ?_
  rw [refWeights_apply]
  exact congrArg (fun c => a0 (ix3 (n0 := 24) (n1 := 1) (n2 := 4096) r 0 c) * _) (Fin.ext (Nat.add_comm u.val (4 * b.val)))

/-- The reference's result. -/
def refOut : FVec Ideal S24x1x22016 .bf16 :=
  truncf .bf16 (addf (addf (addf (refPart a0 f1 f2 f3 0 slicesBy_S24x1x4096_S24x1x1024_0s1_0s1_0s4 0#32)
    (refPart a0 f1 f2 f3 1 slicesBy_S24x1x4096_S24x1x1024_0s1_0s1_1s4 2#32))
    (refPart a0 f1 f2 f3 2 slicesBy_S24x1x4096_S24x1x1024_0s1_0s1_2s4 4#32))
    (refPart a0 f1 f2 f3 3 slicesBy_S24x1x4096_S24x1x1024_0s1_0s1_3s4 6#32)) bitsLt_bf16_f32

/-- The kernel's result is the reference's. -/
theorem kernel_eq_ref : (shapeCast Cert.KernelIdeal.S24x1x22016 (Cert.KernelIdeal.Hand.res
      (shapeCast Cert.KernelIdeal.S24x4096 a0 Cert.KernelIdeal.Gen.shapeCasts_S24x1x4096_S24x4096) f1 f2 f3)
      Cert.KernelIdeal.Gen.shapeCasts_S24x22016_S24x1x22016 : FVec Ideal S24x1x22016 .bf16) = refOut a0 f1 f2 f3 := by
  funext y
  obtain ⟨r, z, n, rfl⟩ : ∃ (r : Fin 24) (z : Fin 1) (n : Fin 22016), y = ix3 r z n := ⟨y 0, y 1, y 2, eq_ix3 y⟩
  obtain rfl : z = 0 := Subsingleton.elim _ _
  have hx : (shapeCast Cert.KernelIdeal.S24x4096 a0 Cert.KernelIdeal.Gen.shapeCasts_S24x1x4096_S24x4096 : Vec Ideal Cert.KernelIdeal.S24x4096 .bf16)
      = fun y => a0 (ix3 (n0 := 24) (n1 := 1) (y 0) 0 (y 1)) := by
    funext y
    pointwise
  have hk : ∀ v : Vec Ideal Cert.KernelIdeal.S24x22016 .bf16,
      shapeCast Cert.KernelIdeal.S24x1x22016 v Cert.KernelIdeal.Gen.shapeCasts_S24x22016_S24x1x22016 (ix3 (n0 := 24) (n1 := 1) r 0 n) = v (ix2 r n) := by
    intro v
    pointwise
  rw [hx]
  refine (hk _).trans ?_
  rw [Cert.KernelIdeal.Hand.res_apply, Fin.sum_univ_four]
  rw [← refPart_apply a0 f1 f2 f3 0 slicesBy_S24x1x4096_S24x1x1024_0s1_0s1_0s4, ← refPart_apply a0 f1 f2 f3 1 slicesBy_S24x1x4096_S24x1x1024_0s1_0s1_1s4,
    ← refPart_apply a0 f1 f2 f3 2 slicesBy_S24x1x4096_S24x1x1024_0s1_0s1_2s4, ← refPart_apply a0 f1 f2 f3 3 slicesBy_S24x1x4096_S24x1x1024_0s1_0s1_3s4]
  rfl

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.K.Value
public import Idealize.ShloMosaic.Adequacy
public import Idealize.ShloMosaic.Init

@[expose] public section

noncomputable section

namespace Cert.Proof

open Idealize.ShloMosaic Idealize.SL.Sem

/-- The kernel's frame claim, said of the idealization's text at `Bits`. -/
def KernelFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem kernel_frame : Cert.quiescent_Kernel (hKernel := Cert.Kernel.Gen.facts) :=
  cast (by sl_kernel_rfl) (show KernelFrame from fun m g _ => Cert.KernelIdeal.Hand.frame_run (F := Bits) m g)

theorem ideal_frame : Cert.quiescent_KernelIdeal (hKernelIdeal := Cert.KernelIdeal.Gen.facts) :=
  fun m g _ => Cert.KernelIdeal.Hand.frame_run (F := Ideal) m g

theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Hand.outFinal m c,
    (θ_run Cert.KernelIdeal.defs _ _).mono (fun r h => h.1) (Cert.KernelIdeal.Hand.run_value (F := Ideal) m g),
    (θ_run Cert.ReferenceIdeal.defs _ _).mono (fun r h c => ⟨(h c).1.trans ?_, (h c).2⟩) (Cert.ReferenceIdeal.Value.run (F := Ideal) m' g')⟩
  rw [(hm c).1, (hm c).2.1, (hm c).2.2.1, (hm c).2.2.2]
  exact (Cert.ReferenceIdeal.Hand.kernel_eq_ref _ _ _ _).symm

end Cert.Proof

theorem Cert.Proof.claim : Cert.Claim :=
  ⟨Cert.Kernel.Gen.facts, Cert.KernelIdeal.Gen.facts, Cert.ReferenceIdeal.Gen.facts,
    Cert.Proof.kernel_frame, Cert.Proof.ideal_frame, Cert.Proof.reference_frame, trivial, Cert.Proof.algebraic⟩
